-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)) (v8 : (c : Dev Cert.KernelIdeal.nD) → Buf (Elt Ideal) ((c.tc : Thread Cert.KernelIdeal.nD Cert.KernelIdeal.τ).loc Cert.KernelIdeal.main_v4_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_v4_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_arg10) = v5 c
          ∧ r.2.mem ((c.tc : Thread Cert.ReferenceIdeal.nD Cert.ReferenceIdeal.τ).loc Cert.ReferenceIdeal.main_v70) = v6 c
          ∧ r.2.mem ((c.tc : Thread Cert.ReferenceIdeal.nD Cert.ReferenceIdeal.τ).loc Cert.ReferenceIdeal.main_v59) = v7 c
          ∧ r.2.mem ((c.tc : Thread Cert.ReferenceIdeal.nD Cert.ReferenceIdeal.τ).loc Cert.ReferenceIdeal.main_v79) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2112x512 : Shape := ⟨2, ![2112, 512]⟩
abbrev S2112x4096 : Shape := ⟨2, ![2112, 4096]⟩
abbrev S2112x5760 : Shape := ⟨2, ![2112, 5760]⟩
abbrev S2112x1024 : Shape := ⟨2, ![2112, 1024]⟩
abbrev S4x512x1024 : Shape := ⟨3, ![4, 512, 1024]⟩
abbrev S1024x1024 : Shape := ⟨2, ![1024, 1024]⟩
abbrev S1024 : Shape := ⟨1, ![1024]⟩
abbrev S2112x9856 : Shape := ⟨2, ![2112, 9856]⟩
abbrev S1x1024 : Shape := ⟨2, ![1, 1024]⟩
abbrev S192x512 : Shape := ⟨2, ![192, 512]⟩
abbrev S192x4096 : Shape := ⟨2, ![192, 4096]⟩
abbrev S192x1024 : Shape := ⟨2, ![192, 1024]⟩
abbrev S_ : Shape := ⟨0, ![]⟩
abbrev S1x512x1024 : Shape := ⟨3, ![1, 512, 1024]⟩
abbrev S512x1024 : Shape := ⟨2, ![512, 1024]⟩
abbrev S192 : Shape := ⟨1, ![192]⟩
abbrev S192x1 : Shape := ⟨2, ![192, 1]⟩
abbrev S1024x512 : Shape := ⟨2, ![1024, 512]⟩
abbrev S3x512x1024 : Shape := ⟨3, ![3, 512, 1024]⟩
abbrev S192x3072 : Shape := ⟨2, ![192, 3072]⟩
abbrev S2x512x1024 : Shape := ⟨3, ![2, 512, 1024]⟩
abbrev S192x2048 : Shape := ⟨2, ![192, 2048]⟩

abbrev nBuf : Space → Nat
  | .hbm => 24
  | .vmem => 32
  | .smem => 0
  | _ => 0

abbrev bufTy : (tb : Table) → Fin (tcTables nBuf tb) → BufTy
  | .hbm, ⟨0, _⟩ => ⟨S2112x512, .f32⟩
  | .hbm, ⟨1, _⟩ => ⟨S2112x512, .f32⟩
  | .hbm, ⟨2, _⟩ => ⟨S2112x512, .f32⟩
  | .hbm, ⟨3, _⟩ => ⟨S2112x512, .f32⟩
  | .hbm, ⟨4, _⟩ => ⟨S2112x4096, .f32⟩
  | .hbm, ⟨5, _⟩ => ⟨S2112x5760, .f32⟩
  | .hbm, ⟨6, _⟩ => ⟨S2112x1024, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S2112x1024, .f32⟩
  | .hbm, ⟨11, _⟩ => ⟨S2112x9856, .f32⟩
  | .hbm, ⟨12, _⟩ => ⟨S4x512x1024, .bf16⟩
  | .hbm, ⟨13, _⟩ => ⟨S1024x1024, .bf16⟩
  | .hbm, ⟨14, _⟩ => ⟨S1x1024, .f32⟩
  | .hbm, ⟨15, _⟩ => ⟨S2112x512, .f32⟩
  | .hbm, ⟨16, _⟩ => ⟨S2112x512, .f32⟩
  | .hbm, ⟨17, _⟩ => ⟨S2112x512, .f32⟩
  | .hbm, ⟨18, _⟩ => ⟨S2112x512, .f32⟩
  | .hbm, ⟨19, _⟩ => ⟨S2112x4096, .f32⟩
  | .hbm, ⟨20, _⟩ => ⟨S2112x1024, .f32⟩
  | .hbm, ⟨21, _⟩ => ⟨S4x512x1024, .f32⟩
  | .hbm, ⟨22, _⟩ => ⟨S1024x1024, .f32⟩
  | .hbm, ⟨23, _⟩ => ⟨S1x1024, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | .local _ .vmem, ⟨8, _⟩ => ⟨S192x4096, .f32⟩
  | .local _ .vmem, ⟨9, _⟩ => ⟨S192x4096, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x512, .f32⟩
  | .local _ .vmem, ⟨15, _⟩ => ⟨S192x512, .f32⟩
  | .local _ .vmem, ⟨16, _⟩ => ⟨S192x512, .f32⟩
  | .local _ .vmem, ⟨17, _⟩ => ⟨S192x512, .f32⟩
  | .local _ .vmem, ⟨18, _⟩ => ⟨S192x512, .f32⟩
  | .local _ .vmem, ⟨19, _⟩ => ⟨S192x512, .f32⟩
  | .local _ .vmem, ⟨20, _⟩ => ⟨S192x512, .f32⟩
  | .local _ .vmem, ⟨21, _⟩ => ⟨S192x512, .f32⟩
  | .local _ .vmem, ⟨22, _⟩ => ⟨S192x4096, .f32⟩
  | .local _ .vmem, ⟨23, _⟩ => ⟨S192x4096, .f32⟩
  | .local _ .vmem, ⟨24, _⟩ => ⟨S192x1024, .f32⟩
  | .local _ .vmem, ⟨25, _⟩ => ⟨S192x1024, .f32⟩
  | .local _ .vmem, ⟨26, _⟩ => ⟨S4x512x1024, .bf16⟩
  | .local _ .vmem, ⟨27, _⟩ => ⟨S1024x1024, .bf16⟩
  | .local _ .vmem, ⟨28, _⟩ => ⟨S1x1024, .f32⟩
  | .local _ .vmem, ⟨29, _⟩ => ⟨S4x512x1024, .f32⟩
  | .local _ .vmem, ⟨30, _⟩ => ⟨S1024x1024, .f32⟩
  | .local _ .vmem, ⟨31, _⟩ => ⟨S1x1024, .f32⟩
  | _, _ => ⟨S2112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v4_7 : Ref sig .tc := ⟨.hbm, 22, rfl⟩
abbrev main_v4_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S192x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S192x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2112x512 : Shape := ⟨2, ![2112, 512]⟩
abbrev S2112x4096 : Shape := ⟨2, ![2112, 4096]⟩
abbrev S2112x5760 : Shape := ⟨2, ![2112, 5760]⟩
abbrev S2112x1024 : Shape := ⟨2, ![2112, 1024]⟩
abbrev S4x512x1024 : Shape := ⟨3, ![4, 512, 1024]⟩
abbrev S1024x1024 : Shape := ⟨2, ![1024, 1024]⟩
abbrev S1024 : Shape := ⟨1, ![1024]⟩
abbrev S2112x1x512 : Shape := ⟨3, ![2112, 1, 512]⟩
abbrev S2112x4x512 : Shape := ⟨3, ![2112, 4, 512]⟩
abbrev S4x1024x2112 : Shape := ⟨3, ![4, 1024, 2112]⟩
abbrev S2112x4x1024 : Shape := ⟨3, ![2112, 4, 1024]⟩
abbrev S_ : Shape := ⟨0, ![]⟩
abbrev S2112 : Shape := ⟨1, ![2112]⟩
abbrev S2112x1 : Shape := ⟨2, ![2112, 1]⟩
abbrev S1x1024 : Shape := ⟨2, ![1, 1024]⟩
abbrev S4x2112x512 : Shape := ⟨3, ![4, 2112, 512]⟩
abbrev S4x1024x512 : Shape := ⟨3, ![4, 1024, 512]⟩

abbrev nBuf : Space → Nat
  | .hbm => 104
  | .vmem => 0
  | .smem => 0
  | _ => 0

abbrev bufTy : (tb : Table) → Fin (tcTables nBuf tb) → BufTy
  | .hbm, ⟨0, _⟩ => ⟨S2112x512, .f32⟩
  | .hbm, ⟨1, _⟩ => ⟨S2112x512, .f32⟩
  | .hbm, ⟨2, _⟩ => ⟨S2112x512, .f32⟩
  | .hbm, ⟨3, _⟩ => ⟨S2112x512, .f32⟩
  | .hbm, ⟨4, _⟩ => ⟨S2112x4096, .f32⟩
  | .hbm, ⟨5, _⟩ => ⟨S2112x5760, .f32⟩
  | .hbm, ⟨6, _⟩ => ⟨S2112x1024, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S2112x1024, .f32⟩
  | .hbm, ⟨11, _⟩ => ⟨S2112x1x512, .f32⟩
  | .hbm, ⟨12, _⟩ => ⟨S2112x1x512, .f32⟩
  | .hbm, ⟨13, _⟩ => ⟨S2112x1x512, .f32⟩
  | .hbm, ⟨14, _⟩ => ⟨S2112x1x512, .f32⟩
  | .hbm, ⟨15, _⟩ => ⟨S2112x4x512, .f32⟩
  | .hbm, ⟨16, _⟩ => ⟨S4x1024x2112, .f32⟩
  | .hbm, ⟨17, _⟩ => ⟨S2112x4x1024, .f32⟩
  | .hbm, ⟨18, _⟩ => ⟨S2112x4x1024, .f32⟩
  | .hbm, ⟨19, _⟩ => ⟨S2112x4x1024, .f32⟩
  | .hbm, ⟨20, _⟩ => ⟨S2112x4x1024, .f32⟩
  | .hbm, ⟨21, _⟩ => ⟨S_, .f32⟩
  | .hbm, ⟨22, _⟩ => ⟨S2112x4x1024, .f32⟩
  | .hbm, ⟨23, _⟩ => ⟨S2112x4x1024, .f32⟩
  | .hbm, ⟨24, _⟩ => ⟨S_, .f32⟩
  | .hbm, ⟨25, _⟩ => ⟨S2112x4x1024, .f32⟩
  | .hbm, ⟨26, _⟩ => ⟨S2112x4x1024, .f32⟩
  | .hbm, ⟨27, _⟩ => ⟨S_, .f32⟩
  | .hbm, ⟨28, _⟩ => ⟨S2112x4x1024, .f32⟩
  | .hbm, ⟨29, _⟩ => ⟨S2112x4x1024, .f32⟩
  | .hbm, ⟨30, _⟩ => ⟨S2112x4x1024, .f32⟩
  | .hbm, ⟨31, _⟩ => ⟨S2112x4x1024, .f32⟩
  | .hbm, ⟨32, _⟩ => ⟨S_, .f32⟩
  | .hbm, ⟨33, _⟩ => ⟨S2112x1024, .f32⟩
  | .hbm, ⟨34, _⟩ => ⟨S2112x1024, .f32⟩
  | .hbm, ⟨35, _⟩ => ⟨S2112x1024, .f32⟩
  | .hbm, ⟨36, _⟩ => ⟨S_, .f32⟩
  | .hbm, ⟨37, _⟩ => ⟨S2112, .f32⟩
  | .hbm, ⟨38, _⟩ => ⟨S2112x1, .f32⟩
  | .hbm, ⟨39, _⟩ => ⟨S_, .f32⟩
  | .hbm, ⟨40, _⟩ => ⟨S2112x1, .f32⟩
  | .hbm, ⟨41, _⟩ => ⟨S2112x1, .f32⟩
  | .hbm, ⟨42, _⟩ => ⟨S_, .f32⟩
  | .hbm, ⟨43, _⟩ => ⟨S2112x1, .f32⟩
  | .hbm, ⟨44, _⟩ => ⟨S2112x1, .f32⟩
  | .hbm, ⟨45, _⟩ => ⟨S2112x1, .f32⟩
  | .hbm, ⟨46, _⟩ => ⟨S2112x1, .f32⟩
  | .hbm, ⟨47, _⟩ => ⟨S_, .f32⟩
  | .hbm, ⟨48, _⟩ => ⟨S2112x1, .f32⟩
  | .hbm, ⟨49, _⟩ => ⟨S2112x1, .f32⟩
  | .hbm, ⟨50, _⟩ => ⟨S2112x1024, .f32⟩
  | .hbm, ⟨51, _⟩ => ⟨S2112x1024, .f32⟩
  | .hbm, ⟨52, _⟩ => ⟨S1x1024, .f32⟩
  | .hbm, ⟨53, _⟩ => ⟨S2112x1024, .f32⟩
  | .hbm, ⟨54, _⟩ => ⟨S2112x1024, .f32⟩
  | .hbm, ⟨55, _⟩ => ⟨S2112x1024, .f32⟩
  | .hbm, ⟨56, _⟩ => ⟨S2112x1024, .f32⟩
  | .hbm, ⟨57, _⟩ => ⟨S2112x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2112x1024, .f32⟩
  | .hbm, ⟨62, _⟩ => ⟨S2112x1024, .f32⟩
  | .hbm, ⟨63, _⟩ => ⟨S_, .f32⟩
  | .hbm, ⟨64, _⟩ => ⟨S1024, .f32⟩
  | .hbm, ⟨65, _⟩ => ⟨S2112x1024, .f32⟩
  | .hbm, ⟨66, _⟩ => ⟨S_, .f32⟩
  | .hbm, ⟨67, _⟩ => ⟨S2112, .f32⟩
  | .hbm, ⟨68, _⟩ => ⟨S2112x1, .f32⟩
  | .hbm, ⟨69, _⟩ => ⟨S2112x1024, .f32⟩
  | .hbm, ⟨70, _⟩ => ⟨S2112x1024, .f32⟩
  | .hbm, ⟨71, _⟩ => ⟨S2112x1, .f32⟩
  | .hbm, ⟨72, _⟩ => ⟨S_, .f32⟩
  | .hbm, ⟨73, _⟩ => ⟨S2112x1, .f32⟩
  | .hbm, ⟨74, _⟩ => ⟨S2112x1, .f32⟩
  | .hbm, ⟨75, _⟩ => ⟨S_, .f32⟩
  | .hbm, ⟨76, _⟩ => ⟨S2112, .f32⟩
  | .hbm, ⟨77, _⟩ => ⟨S2112x1024, .f32⟩
  | .hbm, ⟨78, _⟩ => ⟨S2112x1024, .f32⟩
  | .hbm, ⟨79, _⟩ => ⟨S2112x1024, .f32⟩
  | .hbm, ⟨80, _⟩ => ⟨S2112x1024, .f32⟩
  | .hbm, ⟨81, _⟩ => ⟨S2112x1024, .f32⟩
  | .hbm, ⟨82, _⟩ => ⟨S1024x1024, .f32⟩
  | .hbm, ⟨83, _⟩ => ⟨S1024x1024, .f32⟩
  | .hbm, ⟨84, _⟩ => ⟨S2112x1024, .f32⟩
  | .hbm, ⟨85, _⟩ => ⟨S2112x4x1024, .f32⟩
  | .hbm, ⟨86, _⟩ => ⟨S2112x4x1024, .f32⟩
  | .hbm, ⟨87, _⟩ => ⟨S2112x4x1024, .f32⟩
  | .hbm, ⟨88, _⟩ => ⟨S2112x4x1024, .f32⟩
  | .hbm, ⟨89, _⟩ => ⟨S2112x4096, .f32⟩
  | .hbm, ⟨90, _⟩ => ⟨S4x1024x2112, .f32⟩
  | .hbm, ⟨91, _⟩ => ⟨S4x2112x512, .f32⟩
  | .hbm, ⟨92, _⟩ => ⟨S2112x4x512, .f32⟩
  | .hbm, ⟨93, _⟩ => ⟨S4x1024x512, .f32⟩
  | .hbm, ⟨94, _⟩ => ⟨S4x512x1024, .f32⟩
  | .hbm, ⟨95, _⟩ => ⟨S2112x1x512, .f32⟩
  | .hbm, ⟨96, _⟩ => ⟨S2112x512, .f32⟩
  | .hbm, ⟨97, _⟩ => ⟨S2112x1x512, .f32⟩
  | .hbm, ⟨98, _⟩ => ⟨S2112x512, .f32⟩
  | .hbm, ⟨99, _⟩ => ⟨S2112x1x512, .f32⟩
  | .hbm, ⟨100, _⟩ => ⟨S2112x512, .f32⟩
  | .hbm, ⟨101, _⟩ => ⟨S2112x1x512, .f32⟩
  | .hbm, ⟨102, _⟩ => ⟨S2112x512, .f32⟩
  | .hbm, ⟨103, _⟩ => ⟨S1x1024, .f32⟩
  | _, _ => ⟨S2112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel2.lean ====
abbrev S2112x1024 : Shape := ⟨2, ![2112, 1024]⟩
abbrev S2112x9856 : Shape := ⟨2, ![2112, 9856]⟩
abbrev S1024x9856 : Shape := ⟨2, ![1024, 9856]⟩
abbrev S704x1024 : Shape := ⟨2, ![704, 1024]⟩
abbrev S704x1408 : Shape := ⟨2, ![704, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2112x1024, .f32⟩
  | .hbm, ⟨1, _⟩ => ⟨S2112x9856, .f32⟩
  | .hbm, ⟨2, _⟩ => ⟨S2112x1024, .bf16⟩
  | .hbm, ⟨3, _⟩ => ⟨S2112x9856, .bf16⟩
  | .hbm, ⟨4, _⟩ => ⟨S1024x9856, .f32⟩
  | .local _ .vmem, ⟨0, _⟩ => ⟨S704x1024, .bf16⟩
  | .local _ .vmem, ⟨1, _⟩ => ⟨S704x1024, .bf16⟩
  | .local _ .vmem, ⟨2, _⟩ => ⟨S704x1408, .bf16⟩
  | .local _ .vmem, ⟨3, _⟩ => ⟨S704x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2112x1024 : Shape := ⟨2, ![2112, 1024]⟩
abbrev S2112x9856 : Shape := ⟨2, ![2112, 9856]⟩
abbrev S_ : Shape := ⟨0, ![]⟩
abbrev S1024x9856 : Shape := ⟨2, ![1024, 9856]⟩
abbrev S9856x1024 : Shape := ⟨2, ![9856, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x9856, .f32⟩
  | .hbm, ⟨2, _⟩ => ⟨S_, .f32⟩
  | .hbm, ⟨3, _⟩ => ⟨S1024x9856, .f32⟩
  | .hbm, ⟨4, _⟩ => ⟨S2112x9856, .f32⟩
  | .hbm, ⟨5, _⟩ => ⟨S9856x1024, .f32⟩
  | .hbm, ⟨6, _⟩ => ⟨S1024x9856, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2112x9856 : Shape := ⟨2, ![2112, 9856]⟩
abbrev S1024x9856 : Shape := ⟨2, ![1024, 9856]⟩
abbrev S2112x1024 : Shape := ⟨2, ![2112, 1024]⟩
abbrev S1056x1408 : Shape := ⟨2, ![1056, 1408]⟩
abbrev S1024x1408 : Shape := ⟨2, ![1024, 1408]⟩
abbrev S1056x1024 : Shape := ⟨2, ![1056, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2112x9856, .f32⟩
  | .hbm, ⟨1, _⟩ => ⟨S1024x9856, .f32⟩
  | .hbm, ⟨2, _⟩ => ⟨S2112x9856, .bf16⟩
  | .hbm, ⟨3, _⟩ => ⟨S1024x9856, .bf16⟩
  | .hbm, ⟨4, _⟩ => ⟨S2112x1024, .f32⟩
  | .local _ .vmem, ⟨0, _⟩ => ⟨S1056x1408, .bf16⟩
  | .local _ .vmem, ⟨1, _⟩ => ⟨S1056x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S2112x9856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2112x9856 : Shape := ⟨2, ![2112, 9856]⟩
abbrev S1024x9856 : Shape := ⟨2, ![1024, 9856]⟩
abbrev S_ : Shape := ⟨0, ![]⟩
abbrev S2112x1024 : Shape := ⟨2, ![2112, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2112x9856, .f32⟩
  | .hbm, ⟨1, _⟩ => ⟨S1024x9856, .f32⟩
  | .hbm, ⟨2, _⟩ => ⟨S_, .f32⟩
  | .hbm, ⟨3, _⟩ => ⟨S2112x1024, .f32⟩
  | .hbm, ⟨4, _⟩ => ⟨S2112x9856, .f32⟩
  | .hbm, ⟨5, _⟩ => ⟨S2112x1024, .f32⟩
  | _, _ => ⟨S2112x9856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2112x1024 : Shape := ⟨2, ![2112, 1024]⟩
abbrev S1024x9856 : Shape := ⟨2, ![1024, 9856]⟩
abbrev S2112x9856 : Shape := ⟨2, ![2112, 9856]⟩
abbrev S1056x1024 : Shape := ⟨2, ![1056, 1024]⟩
abbrev S1024x1408 : Shape := ⟨2, ![1024, 1408]⟩
abbrev S1056x1408 : Shape := ⟨2, ![1056, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2112x1024, .f32⟩
  | .hbm, ⟨1, _⟩ => ⟨S1024x9856, .f32⟩
  | .hbm, ⟨2, _⟩ => ⟨S2112x1024, .bf16⟩
  | .hbm, ⟨3, _⟩ => ⟨S1024x9856, .bf16⟩
  | .hbm, ⟨4, _⟩ => ⟨S2112x9856, .f32⟩
  | .local _ .vmem, ⟨0, _⟩ => ⟨S1056x1024, .bf16⟩
  | .local _ .vmem, ⟨1, _⟩ => ⟨S1056x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1408, .f32⟩
  | .local _ .vmem, ⟨5, _⟩ => ⟨S1056x1408, .f32⟩
  | .local _ .vmem, ⟨6, _⟩ => ⟨S1056x1408, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2112x1024 : Shape := ⟨2, ![2112, 1024]⟩
abbrev S1024x9856 : Shape := ⟨2, ![1024, 9856]⟩
abbrev S2112x9856 : Shape := ⟨2, ![2112, 9856]⟩

abbrev nBuf : Space → Nat
  | .hbm => 3
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024x9856, .f32⟩
  | .hbm, ⟨2, _⟩ => ⟨S2112x9856, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S2112x1024 : Shape := ⟨2, ![2112, 1024]⟩
abbrev S1024x4096 : Shape := ⟨2, ![1024, 4096]⟩
abbrev S4096x1024 : Shape := ⟨2, ![4096, 1024]⟩
abbrev S1024x512 : Shape := ⟨2, ![1024, 512]⟩
abbrev S512x1024 : Shape := ⟨2, ![512, 1024]⟩
abbrev S528x1024 : Shape := ⟨2, ![528, 1024]⟩
abbrev S528x512 : Shape := ⟨2, ![528, 512]⟩

abbrev nBuf : Space → Nat
  | .hbm => 7
  | .vmem => 6
  | .smem => 0
  | _ => 0

abbrev bufTy : (tb : Table) → Fin (tcTables nBuf tb) → BufTy
  | .hbm, ⟨0, _⟩ => ⟨S2112x1024, .f32⟩
  | .hbm, ⟨1, _⟩ => ⟨S1024x4096, .f32⟩
  | .hbm, ⟨2, _⟩ => ⟨S4096x1024, .f32⟩
  | .hbm, ⟨3, _⟩ => ⟨S2112x1024, .bf16⟩
  | .hbm, ⟨4, _⟩ => ⟨S1024x4096, .bf16⟩
  | .hbm, ⟨5, _⟩ => ⟨S4096x1024, .bf16⟩
  | .hbm, ⟨6, _⟩ => ⟨S2112x1024, .f32⟩
  | .local _ .vmem, ⟨0, _⟩ => ⟨S2112x1024, .bf16⟩
  | .local _ .vmem, ⟨1, _⟩ => ⟨S1024x512, .bf16⟩
  | .local _ .vmem, ⟨2, _⟩ => ⟨S1024x512, .bf16⟩
  | .local _ .vmem, ⟨3, _⟩ => ⟨S512x1024, .bf16⟩
  | .local _ .vmem, ⟨4, _⟩ => ⟨S512x1024, .bf16⟩
  | .local _ .vmem, ⟨5, _⟩ => ⟨S2112x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c528_i32 : BitVec 32 := 528#32
  let v1 : BitVec 32 := Scalar.muli arg5 c528_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c528_i32 : BitVec 32 := 528#32
  let v1 : BitVec 32 := Scalar.muli arg5 c528_i32
  let v2 : BitVec 32 := v1
  let v3 : Index := Scalar.indexCast v2
  let c0 : Index := 0#32
  ![v3.toNat, 0]
def k0_cond1 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c528_i32 : BitVec 32 := 528#32
  let v1 : BitVec 32 := Scalar.muli arg5 c528_i32
  let v2 : BitVec 32 := v1
  let v22 : Index := Scalar.indexCast v2
  let c0_11 : Index := 0#32
  ![v22.toNat, 0]
def k0_cond2 (i : grid0.Coords) : BitVec 1 :=
  let arg0 : BitVec 32 := BitVec.ofNat 32 (i 0).val
  let c0_i32_9 : BitVec 32 := 0#32
  let v19 : BitVec 1 := Scalar.cmpi .sgt arg0 c0_i32_9
  let v20 : BitVec 32 := Scalar.extui v19
  let c0_i32_10 : BitVec 32 := 0#32
  let v21 : BitVec 1 := Scalar.cmpi .ne v20 c0_i32_10
  v21

def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c528_i32 : BitVec 32 := 528#32
  let v1 : BitVec 32 := Scalar.muli arg5 c528_i32
  let v2 : BitVec 32 := v1
  let v22 : Index := Scalar.indexCast v2
  let c0_11 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2112x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2112x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S2112x1024 : Shape := ⟨2, ![2112, 1024]⟩
abbrev S1024x4096 : Shape := ⟨2, ![1024, 4096]⟩
abbrev S4096x1024 : Shape := ⟨2, ![4096, 1024]⟩
abbrev S2112x4096 : Shape := ⟨2, ![2112, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S1024x4096, .f32⟩
  | .hbm, ⟨2, _⟩ => ⟨S4096x1024, .f32⟩
  | .hbm, ⟨3, _⟩ => ⟨S2112x4096, .f32⟩
  | .hbm, ⟨4, _⟩ => ⟨S_, .f32⟩
  | .hbm, ⟨5, _⟩ => ⟨S2112x4096, .f32⟩
  | .hbm, ⟨6, _⟩ => ⟨S2112x4096, .f32⟩
  | .hbm, ⟨7, _⟩ => ⟨S2112x4096, .f32⟩
  | .hbm, ⟨8, _⟩ => ⟨S2112x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel6.lean ====
abbrev S2112x1024 : Shape := ⟨2, ![2112, 1024]⟩
abbrev S1024x4096 : Shape := ⟨2, ![1024, 4096]⟩
abbrev S4096x1024 : Shape := ⟨2, ![4096, 1024]⟩
abbrev S1024x512 : Shape := ⟨2, ![1024, 512]⟩
abbrev S512x1024 : Shape := ⟨2, ![512, 1024]⟩
abbrev S_ : Shape := ⟨0, ![]⟩
abbrev S528x1024 : Shape := ⟨2, ![528, 1024]⟩
abbrev S528x512 : Shape := ⟨2, ![528, 512]⟩

abbrev nBuf : Space → Nat
  | .hbm => 10
  | .vmem => 11
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x4096, .f32⟩
  | .hbm, ⟨3, _⟩ => ⟨S4096x1024, .f32⟩
  | .hbm, ⟨4, _⟩ => ⟨S2112x1024, .bf16⟩
  | .hbm, ⟨5, _⟩ => ⟨S1024x4096, .bf16⟩
  | .hbm, ⟨6, _⟩ => ⟨S4096x1024, .bf16⟩
  | .hbm, ⟨7, _⟩ => ⟨S2112x1024, .f32⟩
  | .hbm, ⟨8, _⟩ => ⟨S1024x4096, .f32⟩
  | .hbm, ⟨9, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S512x1024, .f32⟩
  | .local _ .vmem, ⟨7, _⟩ => ⟨S512x1024, .f32⟩
  | .local _ .vmem, ⟨8, _⟩ => ⟨S2112x1024, .bf16⟩
  | .local _ .vmem, ⟨9, _⟩ => ⟨S2112x1024, .f32⟩
  | .local _ .vmem, ⟨10, _⟩ => ⟨S2112x1024, .f32⟩
  | _, _ => ⟨S2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c528_i32 : BitVec 32 := 528#32
  let v7 : BitVec 32 := Scalar.muli arg11 c528_i32
  v7
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c528_i32 : BitVec 32 := 528#32
  let v7 : BitVec 32 := Scalar.muli arg11 c528_i32
  let v8 : BitVec 32 := v7
  let v9 : Index := Scalar.indexCast v8
  let c0 : Index := 0#32
  ![v9.toNat, 0]
def k0_cond4 (i : grid0.Coords) : BitVec 1 :=
  let arg0 : BitVec 32 := BitVec.ofNat 32 (i 0).val
  let c0_i32_21 : BitVec 32 := 0#32
  let v39 : BitVec 1 := Scalar.cmpi .eq arg0 c0_i32_21
  let v40 : BitVec 32 := Scalar.extui v39
  let c0_i32_22 : BitVec 32 := 0#32
  let v41 : BitVec 1 := Scalar.cmpi .ne v40 c0_i32_22
  v41

def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c528_i32 : BitVec 32 := 528#32
  let v7 : BitVec 32 := Scalar.muli arg11 c528_i32
  let v8 : BitVec 32 := v7
  let v45 : Index := Scalar.indexCast v8
  let c0_25 : Index := 0#32
  ![v45.toNat, 0]
def k0_cond5 (i : grid0.Coords) : BitVec 1 :=
  let arg0 : BitVec 32 := BitVec.ofNat 32 (i 0).val
  let c0_i32_23 : BitVec 32 := 0#32
  let v42 : BitVec 1 := Scalar.cmpi .sgt arg0 c0_i32_23
  let v43 : BitVec 32 := Scalar.extui v42
  let c0_i32_24 : BitVec 32 := 0#32
  let v44 : BitVec 1 := Scalar.cmpi .ne v43 c0_i32_24
  v44

def k0_off3 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c528_i32 : BitVec 32 := 528#32
  let v7 : BitVec 32 := Scalar.muli arg11 c528_i32
  let v8 : BitVec 32 := v7
  let v45 : Index := Scalar.indexCast v8
  let c0_25 : Index := 0#32
  ![v45.toNat, 0]
def k0_cond2 (k0_t1 : Fin k0_t1_loop.trips) : BitVec 1 :=
  let c0_i32_1 : BitVec 32 := 0#32
  let c1_i32 : BitVec 32 := 1#32
  let arg11 : BitVec 32 := Scf.iv c0_i32_1 c1_i32 k0_t1
  let c0_i32_17 : BitVec 32 := 0#32
  let v33 : BitVec 1 := Scalar.cmpi .eq arg11 c0_i32_17
  let v34 : BitVec 32 := Scalar.extui v33
  let c0_i32_18 : BitVec 32 := 0#32
  let v35 : BitVec 1 := Scalar.cmpi .ne v34 c0_i32_18
  v35

def k0_cond3 (k0_t1 : Fin k0_t1_loop.trips) : BitVec 1 :=
  let c0_i32_1 : BitVec 32 := 0#32
  let c1_i32 : BitVec 32 := 1#32
  let arg11 : BitVec 32 := Scf.iv c0_i32_1 c1_i32 k0_t1
  let c0_i32_19 : BitVec 32 := 0#32
  let v36 : BitVec 1 := Scalar.cmpi .sgt arg11 c0_i32_19
  let v37 : BitVec 32 := Scalar.extui v36
  let c0_i32_20 : BitVec 32 := 0#32
  let v38 : BitVec 1 := Scalar.cmpi .ne v37 c0_i32_20
  v38

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2112x1024 : Shape := ⟨2, ![2112, 1024]⟩
abbrev S1024x4096 : Shape := ⟨2, ![1024, 4096]⟩
abbrev S4096x1024 : Shape := ⟨2, ![4096, 1024]⟩
abbrev S2112x4096 : Shape := ⟨2, ![2112, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2112x1024, .f32⟩
  | .hbm, ⟨1, _⟩ => ⟨S2112x1024, .f32⟩
  | .hbm, ⟨2, _⟩ => ⟨S1024x4096, .f32⟩
  | .hbm, ⟨3, _⟩ => ⟨S4096x1024, .f32⟩
  | .hbm, ⟨4, _⟩ => ⟨S2112x4096, .f32⟩
  | .hbm, ⟨5, _⟩ => ⟨S_, .f32⟩
  | .hbm, ⟨6, _⟩ => ⟨S2112x4096, .f32⟩
  | .hbm, ⟨7, _⟩ => ⟨S2112x4096, .f32⟩
  | .hbm, ⟨8, _⟩ => ⟨S_, .f32⟩
  | .hbm, ⟨9, _⟩ => ⟨S2112x4096, .f32⟩
  | .hbm, ⟨10, _⟩ => ⟨S2112x4096, .i1⟩
  | .hbm, ⟨11, _⟩ => ⟨S_, .f32⟩
  | .hbm, ⟨12, _⟩ => ⟨S2112x4096, .f32⟩
  | .hbm, ⟨13, _⟩ => ⟨S2112x4096, .f32⟩
  | .hbm, ⟨14, _⟩ => ⟨S_, .f32⟩
  | .hbm, ⟨15, _⟩ => ⟨S2112x4096, .f32⟩
  | .hbm, ⟨16, _⟩ => ⟨S2112x4096, .f32⟩
  | .hbm, ⟨17, _⟩ => ⟨S2112x1024, .f32⟩
  | .hbm, ⟨18, _⟩ => ⟨S1024x4096, .f32⟩
  | .hbm, ⟨19, _⟩ => ⟨S4096x1024, .f32⟩
  | .hbm, ⟨20, _⟩ => ⟨S2112x4096, .f32⟩
  | .hbm, ⟨21, _⟩ => ⟨S2112x4096, .f32⟩
  | .hbm, ⟨22, _⟩ => ⟨S_, .f32⟩
  | .hbm, ⟨23, _⟩ => ⟨S2112x4096, .f32⟩
  | .hbm, ⟨24, _⟩ => ⟨S2112x4096, .f32⟩
  | .hbm, ⟨25, _⟩ => ⟨S4096x1024, .f32⟩
  | .hbm, ⟨26, _⟩ => ⟨S1024x4096, .f32⟩
  | .hbm, ⟨27, _⟩ => ⟨S2112x1024, .f32⟩
  | _, _ => ⟨S2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.MergeDefs.lean ====
/-
  The kernel's block values in closed form: compositions of its payloads over a block's inputs and the weights.
-/
module

public import proofs.«01_k».proof.Proof.Gen.KernelIdeal.Skeleton

@[expose] public section

set_option maxRecDepth 16384

noncomputable section

open Idealize.ShloMosaic Idealize.ShloMosaic.TcCoe Idealize.SL.Sem

namespace Cert.Merge.Block

open Cert.KernelIdeal Cert.KernelIdeal.Gen

variable {F : FTy → Type} [FloatOps F]
variable (x0 x1 x2 x3 : Vec F S192x512 .f32) (x4 : Vec F S192x4096 .f32) (x6 : Vec F S192x1024 .f32)
  (w0 : Vec F S4x512x1024 .bf16) (w1 : Vec F S1024x1024 .bf16) (w2 : Vec F S1x1024 .f32)

/-- The block of mixed rows. -/
def mixV : FVec F S192x1024 .bf16 := k0_pay30 x2 x3 (k0_pay7 x4) w0 (k0_pay13 x0 x4 w0) (k0_pay19 x1 x4 w0)
/-- Its product with the output weights, and the statistics of the norm. -/
def zV : FVec F S192x1024 .f32 := k0_pay31 x2 x3 (k0_pay7 x4) w0 w1 (k0_pay13 x0 x4 w0) (k0_pay19 x1 x4 w0)
def rV : FVec F S192x1 .f32 := k0_pay33 x2 x3 (k0_pay7 x4) w0 w1 (k0_pay13 x0 x4 w0) (k0_pay19 x1 x4 w0)
def qV : FVec F S192x1 .f32 := k0_pay34 x2 x3 (k0_pay7 x4) w0 w1 (k0_pay13 x0 x4 w0) (k0_pay19 x1 x4 w0)
def szV : FVec F S192 .f32 := k0_pay38 x2 x3 (k0_pay7 x4) w0 w1 w2 (k0_pay13 x0 x4 w0) (k0_pay19 x1 x4 w0) x6
/-- The block's part of the gradient by the scale of the norm. -/
def gPV : FVec F S1x1024 .f32 :=
  k0_pay36 x2 x3 (k0_pay7 x4) w0 w1 (k0_pay13 x0 x4 w0) (k0_pay19 x1 x4 w0) x6
/-- The gradient by `z`. -/
def dzV : FVec F S192x1024 .f32 :=
  k0_pay39 (zV x0 x1 x2 x3 x4 w0 w1) (rV x0 x1 x2 x3 x4 w0 w1) (qV x0 x1 x2 x3 x4 w0 w1) (k0_pay37 w2 x6)
    (szV x0 x1 x2 x3 x4 x6 w0 w1 w2)
/-- The block's part of the gradient by the output weights. -/
def gOV : FVec F S1024x1024 .bf16 :=
  k0_pay40 (mixV x0 x1 x2 x3 x4 w0) (zV x0 x1 x2 x3 x4 w0 w1) (rV x0 x1 x2 x3 x4 w0 w1) (qV x0 x1 x2 x3 x4 w0 w1)
    (k0_pay37 w2 x6) (szV x0 x1 x2 x3 x4 x6 w0 w1 w2)
/-- The gradient by the mixed rows. -/
def dmV : FVec F S192x1024 .f32 :=
  k0_pay41 w1 (zV x0 x1 x2 x3 x4 w0 w1) (rV x0 x1 x2 x3 x4 w0 w1) (qV x0 x1 x2 x3 x4 w0 w1)
    (k0_pay37 w2 x6) (szV x0 x1 x2 x3 x4 x6 w0 w1 w2)
/-- The second and third, as the kernel writes them. -/
def dp2V : FVec F S192x1024 .f32 :=
  k0_pay45 w1 (k0_pay20 (k0_pay7 x4)) (zV x0 x1 x2 x3 x4 w0 w1) (rV x0 x1 x2 x3 x4 w0 w1) (qV x0 x1 x2 x3 x4 w0 w1)
    (k0_pay37 w2 x6) (szV x0 x1 x2 x3 x4 x6 w0 w1 w2)
def dp3V : FVec F S192x1024 .f32 :=
  k0_pay42 w1 (k0_pay25 (k0_pay7 x4)) (zV x0 x1 x2 x3 x4 w0 w1) (rV x0 x1 x2 x3 x4 w0 w1) (qV x0 x1 x2 x3 x4 w0 w1)
    (k0_pay37 w2 x6) (szV x0 x1 x2 x3 x4 x6 w0 w1 w2)
/-- The gradients by the branches. -/
def dy2V : FVec F S192x512 .f32 :=
  k0_pay46 w1 (k0_pay20 (k0_pay7 x4)) (k0_pay22 w0) (zV x0 x1 x2 x3 x4 w0 w1) (rV x0 x1 x2 x3 x4 w0 w1)
    (qV x0 x1 x2 x3 x4 w0 w1) (k0_pay37 w2 x6) (szV x0 x1 x2 x3 x4 x6 w0 w1 w2)
def dy3V : FVec F S192x512 .f32 :=
  k0_pay43 w1 (k0_pay25 (k0_pay7 x4)) (k0_pay27 w0) (zV x0 x1 x2 x3 x4 w0 w1) (rV x0 x1 x2 x3 x4 w0 w1)
    (qV x0 x1 x2 x3 x4 w0 w1) (k0_pay37 w2 x6) (szV x0 x1 x2 x3 x4 x6 w0 w1 w2)
/-- The block's part of the gradient by the branch projections. -/
def gWpV : FVec F S4x512x1024 .bf16 :=
  k0_pay47 w1 (k0_pay20 (k0_pay7 x4)) (k0_pay23 x2) (k0_pay25 (k0_pay7 x4)) (k0_pay28 x3) (zV x0 x1 x2 x3 x4 w0 w1)
    (rV x0 x1 x2 x3 x4 w0 w1) (qV x0 x1 x2 x3 x4 w0 w1) (k0_pay37 w2 x6) (szV x0 x1 x2 x3 x4 x6 w0 w1 w2)
def gWV : FVec F S4x512x1024 .bf16 :=
  k0_pay53 (k0_pay8 x4) (k0_pay11 x0) (k0_pay14 x4) (k0_pay17 x1) (dmV x0 x1 x2 x3 x4 x6 w0 w1 w2)
    (gWpV x0 x1 x2 x3 x4 x6 w0 w1 w2)
/-- The gradient by the gates' inputs. -/
def dg3V : FVec F S192x4096 .f32 :=
  k0_pay44 w1 (k0_pay26 (k0_pay7 x4)) (k0_pay29 x3 w0) (zV x0 x1 x2 x3 x4 w0 w1)
    (rV x0 x1 x2 x3 x4 w0 w1) (qV x0 x1 x2 x3 x4 w0 w1) (k0_pay37 w2 x6) (szV x0 x1 x2 x3 x4 x6 w0 w1 w2)
def dg2V : FVec F S192x1024 .f32 :=
  k0_pay48 w1 (k0_pay21 (k0_pay7 x4)) (k0_pay24 x2 w0) (zV x0 x1 x2 x3 x4 w0 w1)
    (rV x0 x1 x2 x3 x4 w0 w1) (qV x0 x1 x2 x3 x4 w0 w1) (k0_pay37 w2 x6) (szV x0 x1 x2 x3 x4 x6 w0 w1 w2)
def dgV : FVec F S192x4096 .f32 :=
  k0_pay54 (k0_pay9 x4) (k0_pay12 x0 w0) (k0_pay15 x4) (k0_pay18 x1 w0) (dmV x0 x1 x2 x3 x4 x6 w0 w1 w2)
    (dg3V x0 x1 x2 x3 x4 x6 w0 w1 w2) (dg2V x0 x1 x2 x3 x4 x6 w0 w1 w2) (Scalar.ofBits .f32 0x00000000#32)

end Cert.Merge.Block

end
-- ==== Proof.MergePoint.lean ====
/-
  What the body does at a grid point, in closed form: the six output blocks it stores, and the weights and running sums it
  keeps in scratch.
-/
module

public import proofs.«01_k».proof.Proof.Gen.KernelIdeal.Frame.RunC
public import proofs.«01_k».proof.Proof.MergeDefs
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Merge.Point

open Cert.KernelIdeal Cert.KernelIdeal.Gen Cert.Merge.Block

variable {F : FTy → Type} [FloatOps F]

/-- A whole-block store, the last one made, is what is read back. -/
theorem read_store {κ : Kind} {sp : Space} {S : Shape} {e : EltTy} (v : View sig κ sp S e) (f : _)
    {off : Fin S.rank → Nat} (inb : ∀ a, off a + S.size a ≤ S.size a) (w : S.Idx → Elt F e)
    (L : List (View.Piece (Elt F) S e)) (h : ∀ a, off a = 0) :
    v.read (Elt F) (v.writes (Elt F) f ((⟨Rect.unit off S.size inb, w⟩ : View.Piece (Elt F) S e) :: L)) = w :=
  funext fun y => View.read_writes_cons_unit_of_mem v f inb w L y y rfl fun a => by rw [h a, Nat.zero_add]

/-- A copy into a whole block is what is read back, -/
theorem read_copy {κ : Kind} {sp : Space} {S : Shape} {e : EltTy} (v : View sig κ sp S e) (f : _)
    (w : S.Idx → Elt F e) (L : List (View.Piece (Elt F) S e)) :
    v.read (Elt F) (v.writes (Elt F) f ((⟨Rect.whole S, w⟩ : View.Piece (Elt F) S e) :: L)) = w :=
  read_store v f (fun a => by simp) w L fun _ => rfl

/-- and what a load of the block finds. -/
theorem load_copy {κ : Kind} {sp : Space} {S : Shape} {e : EltTy} (v : View sig κ sp S e) {off : Fin S.rank → Nat}
    (inb : ∀ a, off a + S.size a ≤ S.size a) (w : S.Idx → Elt F e) (h : ∀ a, off a = 0) :
    v.readCov [(⟨Rect.whole S, w⟩ : View.Piece (Elt F) S e)] (Rect.unit off (no_index S.size) inb).toLoadRect = w := by
  obtain rfl : off = fun _ => 0 := funext h
  exact View.readCov_unit_lit v inb w fun _ => rfl

variable (c : Dev nD) (t : Fin cfg0.N) (x0 x1 x2 x3 : Vec F S192x512 .f32) (x4 : Vec F S192x4096 .f32)
  (x5 x6 : Vec F S192x1024 .f32) (w0 : Vec F S4x512x1024 .bf16) (w1 : Vec F S1024x1024 .bf16) (w2 : Vec F S1x1024 .f32)
  (s3 : Vec F S4x512x1024 .f32) (s4 : Vec F S1024x1024 .f32) (s5 : Vec F S1x1024 .f32)
  (g3 : Vec F S4x512x1024 .f32) (g4 : Vec F S1024x1024 .f32) (g5 : Vec F S1x1024 .f32)

/-- The two blocks the body stores first. -/
def o7 : Vec F S192x512 .f32 :=
  k0_pay52 (k0_pay8 x4) (k0_pay10 w0) (dmV x0 x1 x2 x3 x4 x6 w0 w1 w2)
def o8 : Vec F S192x512 .f32 :=
  k0_pay50 (k0_pay14 x4) (k0_pay16 w0) (dmV x0 x1 x2 x3 x4 x6 w0 w1 w2)
/-- The running sums after a point, from those before it. -/
def add3 (s : Vec F S4x512x1024 .f32) : Vec F S4x512x1024 .f32 :=
  k0_pay1 (gWV x0 x1 x2 x3 x4 x6 w0 w1 w2) s
def add4 (s : Vec F S1024x1024 .f32) : Vec F S1024x1024 .f32 :=
  k0_pay2 (gOV x0 x1 x2 x3 x4 x6 w0 w1 w2) s
def add5 (s : Vec F S1x1024 .f32) : Vec F S1x1024 .f32 :=
  k0_pay3 (gPV x0 x1 x2 x3 x4 x6 w0 w1) s

/-- The body's run at the first point. -/
def runA (h0 : t.val % 11 = 0) (h1 : ¬t.val % 11 = 10) :=
  kernelRun0_A c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0 (Memref.isWhole_whole _) scM0_1
    (Memref.isWhole_whole _) scM0_2 (Memref.isWhole_whole _) scM0_3 (Memref.isWhole_whole _) scM0_4
    (Memref.isWhole_whole _) scM0_5 (Memref.isWhole_whole _)
    ((hcond0_0 t).mpr h0) (fun h => h1 ((hcond0_1 t).mp h))
    x0 x1 x2 x3 x4 x5 x6 w0 w1 w2 g3 g4 g5

section
set_option maxHeartbeats 2000000

theorem A7 (h0 : t.val % 11 = 0) (h1 : ¬t.val % 11 = 10) (f) :
    (ms0_7 t).view.read (Elt F) ((ms0_7 t).view.writes (Elt F) f (runA c t x0 x1 x2 x3 x4 x5 x6 w0 w1 w2 g3 g4 g5 h0 h1).1) = o7 x0 x1 x2 x3 x4 x6 w0 w1 w2 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem A8 (h0 : t.val % 11 = 0) (h1 : ¬t.val % 11 = 10) (f) :
    (ms0_8 t).view.read (Elt F) ((ms0_8 t).view.writes (Elt F) f (runA c t x0 x1 x2 x3 x4 x5 x6 w0 w1 w2 g3 g4 g5 h0 h1).2.1) = o8 x0 x1 x2 x3 x4 x6 w0 w1 w2 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem A9 (h0 : t.val % 11 = 0) (h1 : ¬t.val % 11 = 10) (f) :
    (ms0_9 t).view.read (Elt F) ((ms0_9 t).view.writes (Elt F) f (runA c t x0 x1 x2 x3 x4 x5 x6 w0 w1 w2 g3 g4 g5 h0 h1).2.2.1) = dy2V x0 x1 x2 x3 x4 x6 w0 w1 w2 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem A10 (h0 : t.val % 11 = 0) (h1 : ¬t.val % 11 = 10) (f) :
    (ms0_10 t).view.read (Elt F) ((ms0_10 t).view.writes (Elt F) f (runA c t x0 x1 x2 x3 x4 x5 x6 w0 w1 w2 g3 g4 g5 h0 h1).2.2.2.1) = dy3V x0 x1 x2 x3 x4 x6 w0 w1 w2 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem A11 (h0 : t.val % 11 = 0) (h1 : ¬t.val % 11 = 10) (f) :
    (ms0_11 t).view.read (Elt F) ((ms0_11 t).view.writes (Elt F) f (runA c t x0 x1 x2 x3 x4 x5 x6 w0 w1 w2 g3 g4 g5 h0 h1).2.2.2.2.1) = dgV x0 x1 x2 x3 x4 x6 w0 w1 w2 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem A12 (h0 : t.val % 11 = 0) (h1 : ¬t.val % 11 = 10) (f) :
    (ms0_12 t).view.read (Elt F) ((ms0_12 t).view.writes (Elt F) f (runA c t x0 x1 x2 x3 x4 x5 x6 w0 w1 w2 g3 g4 g5 h0 h1).2.2.2.2.2.1) = x6 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]

theorem AS0 (h0 : t.val % 11 = 0) (h1 : ¬t.val % 11 = 10) (f) :
    VS0_0.read (Elt F) (VS0_0.writes (Elt F) f (runA c t x0 x1 x2 x3 x4 x5 x6 w0 w1 w2 g3 g4 g5 h0 h1).2.2.2.2.2.2.1) = w0 := by
  unfold runA kernelRun0_A
  dsimp only
  rw [read_copy]
  rfl

theorem AS1 (h0 : t.val % 11 = 0) (h1 : ¬t.val % 11 = 10) (f) :
    VS0_1.read (Elt F) (VS0_1.writes (Elt F) f (runA c t x0 x1 x2 x3 x4 x5 x6 w0 w1 w2 g3 g4 g5 h0 h1).2.2.2.2.2.2.2.1) = w1 := by
  unfold runA kernelRun0_A
  dsimp only
  rw [read_copy]
  rfl

theorem AS2 (h0 : t.val % 11 = 0) (h1 : ¬t.val % 11 = 10) (f) :
    VS0_2.read (Elt F) (VS0_2.writes (Elt F) f (runA c t x0 x1 x2 x3 x4 x5 x6 w0 w1 w2 g3 g4 g5 h0 h1).2.2.2.2.2.2.2.2.1) = w2 := by
  unfold runA kernelRun0_A
  dsimp only
  rw [read_copy]
  rfl

theorem AS3 (h0 : t.val % 11 = 0) (h1 : ¬t.val % 11 = 10) (f) :
    VS0_3.read (Elt F) (VS0_3.writes (Elt F) f (runA c t x0 x1 x2 x3 x4 x5 x6 w0 w1 w2 g3 g4 g5 h0 h1).2.2.2.2.2.2.2.2.2.1) = add3 x0 x1 x2 x3 x4 x6 w0 w1 w2 k0_pay4 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem AS4 (h0 : t.val % 11 = 0) (h1 : ¬t.val % 11 = 10) (f) :
    VS0_4.read (Elt F) (VS0_4.writes (Elt F) f (runA c t x0 x1 x2 x3 x4 x5 x6 w0 w1 w2 g3 g4 g5 h0 h1).2.2.2.2.2.2.2.2.2.2.1) = add4 x0 x1 x2 x3 x4 x6 w0 w1 w2 k0_pay5 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem AS5 (h0 : t.val % 11 = 0) (h1 : ¬t.val % 11 = 10) (f) :
    VS0_5.read (Elt F) (VS0_5.writes (Elt F) f (runA c t x0 x1 x2 x3 x4 x5 x6 w0 w1 w2 g3 g4 g5 h0 h1).2.2.2.2.2.2.2.2.2.2.2.1) = add5 x0 x1 x2 x3 x4 x6 w0 w1 k0_pay6 := by
  unfold runA kernelRun0_A
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem AH3 (h0 : t.val % 11 = 0) (h1 : ¬t.val % 11 = 10) : (runA c t x0 x1 x2 x3 x4 x5 x6 w0 w1 w2 g3 g4 g5 h0 h1).2.2.2.2.2.2.2.2.2.2.2.2.1 = g3 := by
  unfold runA kernelRun0_A
  dsimp only

theorem AH4 (h0 : t.val % 11 = 0) (h1 : ¬t.val % 11 = 10) : (runA c t x0 x1 x2 x3 x4 x5 x6 w0 w1 w2 g3 g4 g5 h0 h1).2.2.2.2.2.2.2.2.2.2.2.2.2.1 = g4 := by
  unfold runA kernelRun0_A
  dsimp only

theorem AH5 (h0 : t.val % 11 = 0) (h1 : ¬t.val % 11 = 10) : (runA c t x0 x1 x2 x3 x4 x5 x6 w0 w1 w2 g3 g4 g5 h0 h1).2.2.2.2.2.2.2.2.2.2.2.2.2.2.1 = g5 := by
  unfold runA kernelRun0_A
  dsimp only

end

/-- The run at a point between, over the weights and running sums in scratch. -/
def runB (h0 : ¬t.val % 11 = 0) (h1 : ¬t.val % 11 = 10) :=
  kernelRun0_B c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0 (Memref.isWhole_whole _) scM0_1
    (Memref.isWhole_whole _) scM0_2 (Memref.isWhole_whole _) scM0_3 (Memref.isWhole_whole _) scM0_4
    (Memref.isWhole_whole _) scM0_5 (Memref.isWhole_whole _)
    (fun h => h0 ((hcond0_0 t).mp h)) (fun h => h1 ((hcond0_1 t).mp h))
    x0 x1 x2 x3 x4 x5 x6 w0 w1 w2 s3 s4 s5 w0 w1 w2 g3 g4 g5

section
set_option maxHeartbeats 2000000

theorem B7 (h0 : ¬t.val % 11 = 0) (h1 : ¬t.val % 11 = 10) (f) :
    (ms0_7 t).view.read (Elt F) ((ms0_7 t).view.writes (Elt F) f (runB c t x0 x1 x2 x3 x4 x5 x6 w0 w1 w2 s3 s4 s5 g3 g4 g5 h0 h1).1) = o7 x0 x1 x2 x3 x4 x6 w0 w1 w2 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem B8 (h0 : ¬t.val % 11 = 0) (h1 : ¬t.val % 11 = 10) (f) :
    (ms0_8 t).view.read (Elt F) ((ms0_8 t).view.writes (Elt F) f (runB c t x0 x1 x2 x3 x4 x5 x6 w0 w1 w2 s3 s4 s5 g3 g4 g5 h0 h1).2.1) = o8 x0 x1 x2 x3 x4 x6 w0 w1 w2 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem B9 (h0 : ¬t.val % 11 = 0) (h1 : ¬t.val % 11 = 10) (f) :
    (ms0_9 t).view.read (Elt F) ((ms0_9 t).view.writes (Elt F) f (runB c t x0 x1 x2 x3 x4 x5 x6 w0 w1 w2 s3 s4 s5 g3 g4 g5 h0 h1).2.2.1) = dy2V x0 x1 x2 x3 x4 x6 w0 w1 w2 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem B10 (h0 : ¬t.val % 11 = 0) (h1 : ¬t.val % 11 = 10) (f) :
    (ms0_10 t).view.read (Elt F) ((ms0_10 t).view.writes (Elt F) f (runB c t x0 x1 x2 x3 x4 x5 x6 w0 w1 w2 s3 s4 s5 g3 g4 g5 h0 h1).2.2.2.1) = dy3V x0 x1 x2 x3 x4 x6 w0 w1 w2 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem B11 (h0 : ¬t.val % 11 = 0) (h1 : ¬t.val % 11 = 10) (f) :
    (ms0_11 t).view.read (Elt F) ((ms0_11 t).view.writes (Elt F) f (runB c t x0 x1 x2 x3 x4 x5 x6 w0 w1 w2 s3 s4 s5 g3 g4 g5 h0 h1).2.2.2.2.1) = dgV x0 x1 x2 x3 x4 x6 w0 w1 w2 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem B12 (h0 : ¬t.val % 11 = 0) (h1 : ¬t.val % 11 = 10) (f) :
    (ms0_12 t).view.read (Elt F) ((ms0_12 t).view.writes (Elt F) f (runB c t x0 x1 x2 x3 x4 x5 x6 w0 w1 w2 s3 s4 s5 g3 g4 g5 h0 h1).2.2.2.2.2.1) = x6 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]

theorem BS3 (h0 : ¬t.val % 11 = 0) (h1 : ¬t.val % 11 = 10) (f) :
    VS0_3.read (Elt F) (VS0_3.writes (Elt F) f (runB c t x0 x1 x2 x3 x4 x5 x6 w0 w1 w2 s3 s4 s5 g3 g4 g5 h0 h1).2.2.2.2.2.2.2.2.2.1) = add3 x0 x1 x2 x3 x4 x6 w0 w1 w2 s3 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem BS4 (h0 : ¬t.val % 11 = 0) (h1 : ¬t.val % 11 = 10) (f) :
    VS0_4.read (Elt F) (VS0_4.writes (Elt F) f (runB c t x0 x1 x2 x3 x4 x5 x6 w0 w1 w2 s3 s4 s5 g3 g4 g5 h0 h1).2.2.2.2.2.2.2.2.2.2.1) = add4 x0 x1 x2 x3 x4 x6 w0 w1 w2 s4 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem BS5 (h0 : ¬t.val % 11 = 0) (h1 : ¬t.val % 11 = 10) (f) :
    VS0_5.read (Elt F) (VS0_5.writes (Elt F) f (runB c t x0 x1 x2 x3 x4 x5 x6 w0 w1 w2 s3 s4 s5 g3 g4 g5 h0 h1).2.2.2.2.2.2.2.2.2.2.2.1) = add5 x0 x1 x2 x3 x4 x6 w0 w1 s5 := by
  unfold runB kernelRun0_B
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem BH3 (h0 : ¬t.val % 11 = 0) (h1 : ¬t.val % 11 = 10) : (runB c t x0 x1 x2 x3 x4 x5 x6 w0 w1 w2 s3 s4 s5 g3 g4 g5 h0 h1).2.2.2.2.2.2.2.2.2.2.2.2.1 = g3 := by
  unfold runB kernelRun0_B
  dsimp only

theorem BH4 (h0 : ¬t.val % 11 = 0) (h1 : ¬t.val % 11 = 10) : (runB c t x0 x1 x2 x3 x4 x5 x6 w0 w1 w2 s3 s4 s5 g3 g4 g5 h0 h1).2.2.2.2.2.2.2.2.2.2.2.2.2.1 = g4 := by
  unfold runB kernelRun0_B
  dsimp only

theorem BH5 (h0 : ¬t.val % 11 = 0) (h1 : ¬t.val % 11 = 10) : (runB c t x0 x1 x2 x3 x4 x5 x6 w0 w1 w2 s3 s4 s5 g3 g4 g5 h0 h1).2.2.2.2.2.2.2.2.2.2.2.2.2.2.1 = g5 := by
  unfold runB kernelRun0_B
  dsimp only

end

/-- The run at the last point. -/
def runC (h0 : ¬t.val % 11 = 0) (h1 : t.val % 11 = 10) :=
  kernelRun0_C c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0 (Memref.isWhole_whole _) scM0_1
    (Memref.isWhole_whole _) scM0_2 (Memref.isWhole_whole _) scM0_3 (Memref.isWhole_whole _) scM0_4
    (Memref.isWhole_whole _) scM0_5 (Memref.isWhole_whole _)
    (fun h => h0 ((hcond0_0 t).mp h)) ((hcond0_1 t).mpr h1)
    x0 x1 x2 x3 x4 x5 x6 w0 w1 w2 s3 s4 s5 w0 w1 w2 g3 g4 g5

section
set_option maxHeartbeats 2000000

theorem C7 (h0 : ¬t.val % 11 = 0) (h1 : t.val % 11 = 10) (f) :
    (ms0_7 t).view.read (Elt F) ((ms0_7 t).view.writes (Elt F) f (runC c t x0 x1 x2 x3 x4 x5 x6 w0 w1 w2 s3 s4 s5 g3 g4 g5 h0 h1).1) = o7 x0 x1 x2 x3 x4 x6 w0 w1 w2 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem C8 (h0 : ¬t.val % 11 = 0) (h1 : t.val % 11 = 10) (f) :
    (ms0_8 t).view.read (Elt F) ((ms0_8 t).view.writes (Elt F) f (runC c t x0 x1 x2 x3 x4 x5 x6 w0 w1 w2 s3 s4 s5 g3 g4 g5 h0 h1).2.1) = o8 x0 x1 x2 x3 x4 x6 w0 w1 w2 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem C9 (h0 : ¬t.val % 11 = 0) (h1 : t.val % 11 = 10) (f) :
    (ms0_9 t).view.read (Elt F) ((ms0_9 t).view.writes (Elt F) f (runC c t x0 x1 x2 x3 x4 x5 x6 w0 w1 w2 s3 s4 s5 g3 g4 g5 h0 h1).2.2.1) = dy2V x0 x1 x2 x3 x4 x6 w0 w1 w2 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem C10 (h0 : ¬t.val % 11 = 0) (h1 : t.val % 11 = 10) (f) :
    (ms0_10 t).view.read (Elt F) ((ms0_10 t).view.writes (Elt F) f (runC c t x0 x1 x2 x3 x4 x5 x6 w0 w1 w2 s3 s4 s5 g3 g4 g5 h0 h1).2.2.2.1) = dy3V x0 x1 x2 x3 x4 x6 w0 w1 w2 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem C11 (h0 : ¬t.val % 11 = 0) (h1 : t.val % 11 = 10) (f) :
    (ms0_11 t).view.read (Elt F) ((ms0_11 t).view.writes (Elt F) f (runC c t x0 x1 x2 x3 x4 x5 x6 w0 w1 w2 s3 s4 s5 g3 g4 g5 h0 h1).2.2.2.2.1) = dgV x0 x1 x2 x3 x4 x6 w0 w1 w2 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem C12 (h0 : ¬t.val % 11 = 0) (h1 : t.val % 11 = 10) (f) :
    (ms0_12 t).view.read (Elt F) ((ms0_12 t).view.writes (Elt F) f (runC c t x0 x1 x2 x3 x4 x5 x6 w0 w1 w2 s3 s4 s5 g3 g4 g5 h0 h1).2.2.2.2.2.1) = x6 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]

theorem CS3 (h0 : ¬t.val % 11 = 0) (h1 : t.val % 11 = 10) (f) :
    VS0_3.read (Elt F) (VS0_3.writes (Elt F) f (runC c t x0 x1 x2 x3 x4 x5 x6 w0 w1 w2 s3 s4 s5 g3 g4 g5 h0 h1).2.2.2.2.2.2.2.2.2.1) = add3 x0 x1 x2 x3 x4 x6 w0 w1 w2 s3 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem CS4 (h0 : ¬t.val % 11 = 0) (h1 : t.val % 11 = 10) (f) :
    VS0_4.read (Elt F) (VS0_4.writes (Elt F) f (runC c t x0 x1 x2 x3 x4 x5 x6 w0 w1 w2 s3 s4 s5 g3 g4 g5 h0 h1).2.2.2.2.2.2.2.2.2.2.1) = add4 x0 x1 x2 x3 x4 x6 w0 w1 w2 s4 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem CS5 (h0 : ¬t.val % 11 = 0) (h1 : t.val % 11 = 10) (f) :
    VS0_5.read (Elt F) (VS0_5.writes (Elt F) f (runC c t x0 x1 x2 x3 x4 x5 x6 w0 w1 w2 s3 s4 s5 g3 g4 g5 h0 h1).2.2.2.2.2.2.2.2.2.2.2.1) = add5 x0 x1 x2 x3 x4 x6 w0 w1 s5 := by
  unfold runC kernelRun0_C
  dsimp only
  frame_open
  rw [read_store _ _ _ _ _ (by decide)]
  simp (disch := decide) only [load_copy, View.ld_unit_lit', View.readCov_unit_lit', View.readCov_cons_unit_lit',
    View.readAt_eq_ld, Memref.IsWhole.read_unread, read_unread_whole]
  rfl

theorem CH3 (h0 : ¬t.val % 11 = 0) (h1 : t.val % 11 = 10) : (runC c t x0 x1 x2 x3 x4 x5 x6 w0 w1 w2 s3 s4 s5 g3 g4 g5 h0 h1).2.2.2.2.2.2.2.2.2.2.2.2.1 = add3 x0 x1 x2 x3 x4 x6 w0 w1 w2 s3 := by
  unfold runC kernelRun0_C
  dsimp only
  refine (View.write_whole_univ _ _ _).trans ?_
  unfold kernelRun0_C.sl.dma30
  exact CS3 c t x0 x1 x2 x3 x4 x5 x6 w0 w1 w2 s3 s4 s5 g3 g4 g5 h0 h1 _

theorem CH4 (h0 : ¬t.val % 11 = 0) (h1 : t.val % 11 = 10) : (runC c t x0 x1 x2 x3 x4 x5 x6 w0 w1 w2 s3 s4 s5 g3 g4 g5 h0 h1).2.2.2.2.2.2.2.2.2.2.2.2.2.1 = add4 x0 x1 x2 x3 x4 x6 w0 w1 w2 s4 := by
  unfold runC kernelRun0_C
  dsimp only
  refine (View.write_whole_univ _ _ _).trans ?_
  unfold kernelRun0_C.sl.dma30_1
  exact CS4 c t x0 x1 x2 x3 x4 x5 x6 w0 w1 w2 s3 s4 s5 g3 g4 g5 h0 h1 _

theorem CH5 (h0 : ¬t.val % 11 = 0) (h1 : t.val % 11 = 10) : (runC c t x0 x1 x2 x3 x4 x5 x6 w0 w1 w2 s3 s4 s5 g3 g4 g5 h0 h1).2.2.2.2.2.2.2.2.2.2.2.2.2.2.1 = add5 x0 x1 x2 x3 x4 x6 w0 w1 s5 := by
  unfold runC kernelRun0_C
  dsimp only
  refine (View.write_whole_univ _ _ _).trans ?_
  unfold kernelRun0_C.sl.dma30_2
  exact CS5 c t x0 x1 x2 x3 x4 x5 x6 w0 w1 w2 s3 s4 s5 g3 g4 g5 h0 h1 _

end

end Cert.Merge.Point

end
-- ==== Proof.MergeRun.lean ====
/-
  The kernel's run: its body at each grid point keeps the invariant — the weights and the running sums in scratch, the results
  at their launch contents until the last point copies the sums out — so the launch ends with every output tiled by its
  points' blocks and the three results at the last point's sums. At any values; the frame follows.
-/
module

public import proofs.«01_k».proof.Proof.MergePoint

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

namespace Cert.Merge.Run

open Cert.KernelIdeal Cert.KernelIdeal.Gen Cert.Merge.Block Cert.Merge.Point

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents, point by point -/

/-- The blocks and weights the body works on at point `t`: the four branch outputs, the gates, the rows the mix is added to,
    the cotangent, and the three weights as the host hands them over. -/
abbrev b0 (c : Dev nD) (t : Fin cfg0.N) : Vec F S192x512 .f32 := iblk m c 0 t
abbrev b1 (c : Dev nD) (t : Fin cfg0.N) : Vec F S192x512 .f32 := iblk m c 1 t
abbrev b2 (c : Dev nD) (t : Fin cfg0.N) : Vec F S192x512 .f32 := iblk m c 2 t
abbrev b3 (c : Dev nD) (t : Fin cfg0.N) : Vec F S192x512 .f32 := iblk m c 3 t
abbrev b4 (c : Dev nD) (t : Fin cfg0.N) : Vec F S192x4096 .f32 := X0_4 m c t
abbrev b5 (c : Dev nD) (t : Fin cfg0.N) : Vec F S192x1024 .f32 := iblk m c 5 t
abbrev b6 (c : Dev nD) (t : Fin cfg0.N) : Vec F S192x1024 .f32 := iblk m c 6 t
abbrev W0 (c : Dev nD) : Vec F S4x512x1024 .bf16 := V m c main_v1
abbrev W1 (c : Dev nD) : Vec F S1024x1024 .bf16 := V m c main_v2
abbrev W2 (c : Dev nD) : Vec F S1x1024 .f32 := V m c main_v3
abbrev R3 (c : Dev nD) : Vec F S4x512x1024 .f32 := V m c main_v4_6
abbrev R4 (c : Dev nD) : Vec F S1024x1024 .f32 := V m c main_v4_7
abbrev R5 (c : Dev nD) : Vec F S1x1024 .f32 := V m c main_v4_8

/-- The blocks the body leaves in the outputs at point `t`. -/
def y7 (c : Dev nD) (t : Fin cfg0.N) : Vec F S192x512 .f32 :=
  o7 (b0 m c t) (b1 m c t) (b2 m c t) (b3 m c t) (b4 m c t) (b6 m c t) (W0 m c) (W1 m c) (W2 m c)
def y8 (c : Dev nD) (t : Fin cfg0.N) : Vec F S192x512 .f32 :=
  o8 (b0 m c t) (b1 m c t) (b2 m c t) (b3 m c t) (b4 m c t) (b6 m c t) (W0 m c) (W1 m c) (W2 m c)
def y9 (c : Dev nD) (t : Fin cfg0.N) : Vec F S192x512 .f32 :=
  dy2V (b0 m c t) (b1 m c t) (b2 m c t) (b3 m c t) (b4 m c t) (b6 m c t) (W0 m c) (W1 m c) (W2 m c)
def y10 (c : Dev nD) (t : Fin cfg0.N) : Vec F S192x512 .f32 :=
  dy3V (b0 m c t) (b1 m c t) (b2 m c t) (b3 m c t) (b4 m c t) (b6 m c t) (W0 m c) (W1 m c) (W2 m c)
def y11 (c : Dev nD) (t : Fin cfg0.N) : Vec F S192x4096 .f32 :=
  dgV (b0 m c t) (b1 m c t) (b2 m c t) (b3 m c t) (b4 m c t) (b6 m c t) (W0 m c) (W1 m c) (W2 m c)
def y12 (c : Dev nD) (t : Fin cfg0.N) : Vec F S192x1024 .f32 :=
  b6 m c t

/-- One point's step of each running sum, -/
def step3 (c : Dev nD) (t : Fin cfg0.N) (s : Vec F S4x512x1024 .f32) : Vec F S4x512x1024 .f32 :=
  add3 (b0 m c t) (b1 m c t) (b2 m c t) (b3 m c t) (b4 m c t) (b6 m c t) (W0 m c) (W1 m c) (W2 m c) s
def step4 (c : Dev nD) (t : Fin cfg0.N) (s : Vec F S1024x1024 .f32) : Vec F S1024x1024 .f32 :=
  add4 (b0 m c t) (b1 m c t) (b2 m c t) (b3 m c t) (b4 m c t) (b6 m c t) (W0 m c) (W1 m c) (W2 m c) s
def step5 (c : Dev nD) (t : Fin cfg0.N) (s : Vec F S1x1024 .f32) : Vec F S1x1024 .f32 :=
  add5 (b0 m c t) (b1 m c t) (b2 m c t) (b3 m c t) (b4 m c t) (b6 m c t) (W0 m c) (W1 m c) s

/-- the sums after `n` points, -/
def sum3 (c : Dev nD) : ℕ → Vec F S4x512x1024 .f32
  | 0 => k0_pay4
  | n + 1 => if h : n < cfg0.N then step3 m c ⟨n, h⟩ (sum3 c n) else sum3 c n
def sum4 (c : Dev nD) : ℕ → Vec F S1024x1024 .f32
  | 0 => k0_pay5
  | n + 1 => if h : n < cfg0.N then step4 m c ⟨n, h⟩ (sum4 c n) else sum4 c n
def sum5 (c : Dev nD) : ℕ → Vec F S1x1024 .f32
  | 0 => k0_pay6
  | n + 1 => if h : n < cfg0.N then step5 m c ⟨n, h⟩ (sum5 c n) else sum5 c n
theorem sum3_step (c : Dev nD) (t : Fin cfg0.N) : sum3 m c (t.val + 1) = step3 m c t (sum3 m c t.val) := by
  simp only [sum3, dif_pos t.isLt]
theorem sum4_step (c : Dev nD) (t : Fin cfg0.N) : sum4 m c (t.val + 1) = step4 m c t (sum4 m c t.val) := by
  simp only [sum4, dif_pos t.isLt]
theorem sum5_step (c : Dev nD) (t : Fin cfg0.N) : sum5 m c (t.val + 1) = step5 m c t (sum5 m c t.val) := by
  simp only [sum5, dif_pos t.isLt]

/-- and the results after `n` points: as launched, until the last. -/
def res3 (c : Dev nD) (n : ℕ) : Vec F S4x512x1024 .f32 := if n = cfg0.N then sum3 m c n else R3 m c
def res4 (c : Dev nD) (n : ℕ) : Vec F S1024x1024 .f32 := if n = cfg0.N then sum4 m c n else R4 m c
def res5 (c : Dev nD) (n : ℕ) : Vec F S1x1024 .f32 := if n = cfg0.N then sum5 m c n else R5 m c

/-! ## The invariant and the proof data -/

/-- Between points: the weights and the sums so far in scratch, the results. -/
def mid (c : Dev nD) (n : ℕ) : sProp 𝕄 :=
  iprop(iprop(owns (c : Thread nD τ) scM0_0 fullShare (W0 m c) ∗
      owns (c : Thread nD τ) scM0_1 fullShare (W1 m c) ∗
      owns (c : Thread nD τ) scM0_2 fullShare (W2 m c) ∗
      owns (c : Thread nD τ) scM0_3 fullShare (sum3 m c n) ∗
      owns (c : Thread nD τ) scM0_4 fullShare (sum4 m c n) ∗
      owns (c : Thread nD τ) scM0_5 fullShare (sum5 m c n))
    ∗ (∃ r, prngReg c r)
    ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
    ∗ iprop(hbPt0 c hbM0_0 (W0 m c) ∗ hbPt0 c hbM0_1 (W1 m c) ∗ hbPt0 c hbM0_2 (W2 m c))
    ∗ iprop(hbPt0 c hbM0_3 (res3 m c n) ∗ hbPt0 c hbM0_4 (res4 m c n) ∗ hbPt0 c hbM0_5 (res5 m c n)))

def Phi (c : Dev nD) : (n : ℕ) → n ≤ cfg0.N → sProp 𝕄
  | 0, _ => Pipeline.ΦDRG osem0 spec0 H0 R0 (V m) (V m) c
  | n + 1, _ => mid m c (n + 1)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => iblk m c 6 t
    | ⟨7, _⟩ => y7 m c t
    | ⟨8, _⟩ => y8 m c t
    | ⟨9, _⟩ => y9 m c t
    | ⟨10, _⟩ => y10 m c t
    | ⟨11, _⟩ => y11 m c t
    | ⟨12, _⟩ => y12 m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t
theorem Phi_pos (c : Dev nD) (n : ℕ) (h : n ≤ cfg0.N) (hz : n ≠ 0) : Phi m c n h = mid m c n := by
  cases n with
  | zero => exact absurd rfl hz
  | succ n => rfl
theorem Phi_succ (c : Dev nD) (t : Fin cfg0.N) : (dats m 0 c).Φ t.succ = mid m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = y7 m c t := by dsimp only [dats]
theorem after_8 (c : Dev nD) (t : Fin cfg0.N) : (dats m 0 c).after 8 t = y8 m c t := by dsimp only [dats]
theorem after_9 (c : Dev nD) (t : Fin cfg0.N) : (dats m 0 c).after 9 t = y9 m c t := by dsimp only [dats]
theorem after_10 (c : Dev nD) (t : Fin cfg0.N) : (dats m 0 c).after 10 t = y10 m c t := by dsimp only [dats]
theorem after_11 (c : Dev nD) (t : Fin cfg0.N) : (dats m 0 c).after 11 t = y11 m c t := by dsimp only [dats]
theorem after_12 (c : Dev nD) (t : Fin cfg0.N) : (dats m 0 c).after 12 t = y12 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗
      (∃ d, owns (c : Thread nD τ) (ms0_1 t) fullShare ((dats m 0 c).before 1 t d)) ∗
      (∃ d, owns (c : Thread nD τ) (ms0_2 t) fullShare ((dats m 0 c).before 2 t d)) ∗
      (∃ d, owns (c : Thread nD τ) (ms0_3 t) fullShare ((dats m 0 c).before 3 t d)) ∗
      (∃ d, owns (c : Thread nD τ) (ms0_4 t) fullShare ((dats m 0 c).before 4 t d)) ∗
      (∃ d, owns (c : Thread nD τ) (ms0_5 t) fullShare ((dats m 0 c).before 5 t d)) ∗
      (∃ d, owns (c : Thread nD τ) (ms0_6 t) fullShare ((dats m 0 c).before 6 t d)) ∗
      (∃ d, owns (c : Thread nD τ) (ms0_7 t) fullShare ((dats m 0 c).before 7 t d)) ∗
      (∃ d, owns (c : Thread nD τ) (ms0_8 t) fullShare ((dats m 0 c).before 8 t d)) ∗
      (∃ d, owns (c : Thread nD τ) (ms0_9 t) fullShare ((dats m 0 c).before 9 t d)) ∗
      (∃ d, owns (c : Thread nD τ) (ms0_10 t) fullShare ((dats m 0 c).before 10 t d)) ∗
      (∃ d, owns (c : Thread nD τ) (ms0_11 t) fullShare ((dats m 0 c).before 11 t d)) ∗
      (∃ d, owns (c : Thread nD τ) (ms0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗
      owns (c : Thread nD τ) (ms0_1 t) fullShare ((dats m 0 c).after 1 t) ∗
      owns (c : Thread nD τ) (ms0_2 t) fullShare ((dats m 0 c).after 2 t) ∗
      owns (c : Thread nD τ) (ms0_3 t) fullShare ((dats m 0 c).after 3 t) ∗
      owns (c : Thread nD τ) (ms0_4 t) fullShare ((dats m 0 c).after 4 t) ∗
      owns (c : Thread nD τ) (ms0_5 t) fullShare ((dats m 0 c).after 5 t) ∗
      owns (c : Thread nD τ) (ms0_6 t) fullShare ((dats m 0 c).after 6 t) ∗
      owns (c : Thread nD τ) (ms0_7 t) fullShare ((dats m 0 c).after 7 t) ∗
      owns (c : Thread nD τ) (ms0_8 t) fullShare ((dats m 0 c).after 8 t) ∗
      owns (c : Thread nD τ) (ms0_9 t) fullShare ((dats m 0 c).after 9 t) ∗
      owns (c : Thread nD τ) (ms0_10 t) fullShare ((dats m 0 c).after 10 t) ∗
      owns (c : Thread nD τ) (ms0_11 t) fullShare ((dats m 0 c).after 11 t) ∗
      owns (c : Thread nD τ) (ms0_12 t) fullShare ((dats m 0 c).after 12 t))

/-- A buffer holding stores that cover it is owned at what they read back as. -/
theorem owns_of (c : Dev nD) {S : Shape} {e : EltTy} (M : Memref sig .tc .vmem S e) (L : List (View.Piece (Elt F) S e))
    (y : Vec F S e) (h : ∀ f, M.view.read (Elt F) (M.view.writes (Elt F) f L) = y) :
    (iprop(∃ f, M.view.loc (c : Thread nD τ) ↦[M.view.set]{fullShare} M.view.writes (Elt F) f L) : sProp 𝕄)
      ⊢ owns (c : Thread nD τ) M fullShare y := by
  iintro ⟨%f, H⟩
  unfold owns; iexists _; isplitr
  swap; · iexact H
  ipureintro; exact h _

theorem pt_of (c : Dev nD) {sp : Space} {S : Shape} {e : EltTy} (M : Memref sig .tc sp S e) {f g : HbBuf0 (F := F) c M}
    (h : f = g) : (hbPt0 c M f : sProp 𝕄) ⊢ hbPt0 c M g := by
  subst h; exact .rfl

/-- The obligation from a run of the body: what the invariant gives it, and what the run's leavings give back. -/
theorem body_of (c : Dev nD) (t : Fin cfg0.N) {S0 S1 S2 S3 S4 S5 B3 B4 B5 R : sProp 𝕄}
    (hrun : ∀ (W : Waits sig Unit) (K : PUnit → sProp 𝕄),
      iprop(owns (c : Thread nD τ) (ms0_0 t) fullShare (b0 m c t) ∗
      owns (c : Thread nD τ) (ms0_1 t) fullShare (b1 m c t) ∗
      owns (c : Thread nD τ) (ms0_2 t) fullShare (b2 m c t) ∗
      owns (c : Thread nD τ) (ms0_3 t) fullShare (b3 m c t) ∗
      owns (c : Thread nD τ) (ms0_4 t) fullShare (b4 m c t) ∗
      owns (c : Thread nD τ) (ms0_5 t) fullShare (b5 m c t) ∗
      owns (c : Thread nD τ) (ms0_6 t) fullShare (b6 m c t) ∗
      (∃ d, owns (c : Thread nD τ) (ms0_7 t) fullShare d) ∗
      (∃ d, owns (c : Thread nD τ) (ms0_8 t) fullShare d) ∗
      (∃ d, owns (c : Thread nD τ) (ms0_9 t) fullShare d) ∗
      (∃ d, owns (c : Thread nD τ) (ms0_10 t) fullShare d) ∗
      (∃ d, owns (c : Thread nD τ) (ms0_11 t) fullShare d) ∗
      (∃ d, owns (c : Thread nD τ) (ms0_12 t) fullShare d) ∗
      S0 ∗ S1 ∗ S2 ∗ S3 ∗ S4 ∗ S5 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗
      hbPt0 c hbM0_0 (W0 m c) ∗ hbPt0 c hbM0_1 (W1 m c) ∗ hbPt0 c hbM0_2 (W2 m c) ∗ B3 ∗ B4 ∗ B5 ∗ owes (c : Thread nD τ) 0 W ∗ (R -∗ K ⟨⟩))
      ⊢ wp frame (wpE (defs₀ (F := F)) Variants.none c none) Set.univ (bodyAt0 t) K)
    (hpre : Phi m c t.val (Nat.le_of_lt t.isLt) ⊢ iprop(iprop(S0 ∗ S1 ∗ S2 ∗ S3 ∗ S4 ∗ S5) ∗ (∃ r, prngReg c r)
      ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
      ∗ iprop(hbPt0 c hbM0_0 (W0 m c) ∗ hbPt0 c hbM0_1 (W1 m c) ∗ hbPt0 c hbM0_2 (W2 m c)) ∗ iprop(B3 ∗ B4 ∗ B5)))
    (hpost : iprop(R ∗ (∃ r, prngReg c r)) ⊢ bodyPost m c t) :
    bodyPre m c t ⊢ wp frame (wpE (defs₀ (F := F)) Variants.none c none) Set.univ (bodyAt0 t) (fun _ => bodyPost m c t) := by
  unfold bodyPre
  simp only [before_0, before_1, before_2, before_3, before_4, before_5, before_6]
  rw [Phi_castSucc m c t]
  unfold Dat.owesAt Pipeline.owesWithin
  rw [show (dats m 0 c).owed t.castSucc = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HQ := hpre $$ HP
  icases HQ with ⟨⟨HS0, HS1, HS2, HS3, HS4, HS5⟩, Hg, ⟨Hq0, Hq1, Hq2, Hq3, Hq4, Hq5⟩, ⟨Hh0, Hh1, Hh2⟩, ⟨Hh3, Hh4, Hh5⟩⟩
  iapply (hrun W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro HR
  iapply hpost
  isplitl [HR]; · iexact HR
  iexact Hg

/-- What a run leaves, buffer by buffer, is what the next point's invariant and the outputs ask for. -/
theorem post_of (c : Dev nD) (t : Fin cfg0.N) {A7 A8 A9 A10 A11 A12 S0 S1 S2 S3 S4 S5 B3 B4 B5 : sProp 𝕄}
    (h7 : A7 ⊢ owns (c : Thread nD τ) (ms0_7 t) fullShare (y7 m c t))
    (h8 : A8 ⊢ owns (c : Thread nD τ) (ms0_8 t) fullShare (y8 m c t))
    (h9 : A9 ⊢ owns (c : Thread nD τ) (ms0_9 t) fullShare (y9 m c t))
    (h10 : A10 ⊢ owns (c : Thread nD τ) (ms0_10 t) fullShare (y10 m c t))
    (h11 : A11 ⊢ owns (c : Thread nD τ) (ms0_11 t) fullShare (y11 m c t))
    (h12 : A12 ⊢ owns (c : Thread nD τ) (ms0_12 t) fullShare (y12 m c t))
    (hs0 : S0 ⊢ owns (c : Thread nD τ) scM0_0 fullShare (W0 m c))
    (hs1 : S1 ⊢ owns (c : Thread nD τ) scM0_1 fullShare (W1 m c))
    (hs2 : S2 ⊢ owns (c : Thread nD τ) scM0_2 fullShare (W2 m c))
    (hs3 : S3 ⊢ owns (c : Thread nD τ) scM0_3 fullShare (sum3 m c (t.val + 1)))
    (hs4 : S4 ⊢ owns (c : Thread nD τ) scM0_4 fullShare (sum4 m c (t.val + 1)))
    (hs5 : S5 ⊢ owns (c : Thread nD τ) scM0_5 fullShare (sum5 m c (t.val + 1)))
    (hb3 : B3 ⊢ hbPt0 c hbM0_3 (res3 m c (t.val + 1)))
    (hb4 : B4 ⊢ hbPt0 c hbM0_4 (res4 m c (t.val + 1)))
    (hb5 : B5 ⊢ hbPt0 c hbM0_5 (res5 m c (t.val + 1)))
    : iprop(iprop(owns (c : Thread nD τ) (ms0_0 t) fullShare (b0 m c t) ∗
      owns (c : Thread nD τ) (ms0_1 t) fullShare (b1 m c t) ∗
      owns (c : Thread nD τ) (ms0_2 t) fullShare (b2 m c t) ∗
      owns (c : Thread nD τ) (ms0_3 t) fullShare (b3 m c t) ∗
      owns (c : Thread nD τ) (ms0_4 t) fullShare (b4 m c t) ∗
      owns (c : Thread nD τ) (ms0_5 t) fullShare (b5 m c t) ∗
      owns (c : Thread nD τ) (ms0_6 t) fullShare (b6 m c t) ∗
      A7 ∗ A8 ∗ A9 ∗ A10 ∗ A11 ∗ A12 ∗ S0 ∗ S1 ∗ S2 ∗ S3 ∗ S4 ∗ S5 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗
      hbPt0 c hbM0_0 (W0 m c) ∗ hbPt0 c hbM0_1 (W1 m c) ∗ hbPt0 c hbM0_2 (W2 m c) ∗ B3 ∗ B4 ∗ B5 ∗ (∃ W', owes (c : Thread nD τ) 0 W')) ∗ (∃ r, prngReg c r)) ⊢ bodyPost m c t := by
  unfold bodyPost
  rw [Phi_succ, after_0, after_1, after_2, after_3, after_4, after_5, after_6, after_7, after_8, after_9, after_10, after_11, after_12]
  unfold Dat.owesAt Pipeline.owesWithin mid
  rw [show (dats m 0 c).owed t.succ = 0 from rfl]
  iintro ⟨⟨H0, H1, H2, H3, H4, H5, H6, H7, H8, H9, H10, H11, H12, HS0, HS1, HS2, HS3, HS4, HS5, Hq0, Hq1, Hq2, Hq3, Hq4, Hq5, Hh0, Hh1, Hh2, Hh3, Hh4, Hh5, ⟨%W', HW'⟩⟩, Hg⟩
  isplitl [HS0 HS1 HS2 HS3 HS4 HS5 Hg Hq0 Hq1 Hq2 Hq3 Hq4 Hq5 Hh0 Hh1 Hh2 Hh3 Hh4 Hh5]
  · isplitl [HS0 HS1 HS2 HS3 HS4 HS5]
    · isplitl [HS0]; · iapply hs0; iexact HS0
      isplitl [HS1]; · iapply hs1; iexact HS1
      isplitl [HS2]; · iapply hs2; iexact HS2
      isplitl [HS3]; · iapply hs3; iexact HS3
      isplitl [HS4]; · iapply hs4; iexact HS4
      iapply hs5; iexact HS5
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hh0 Hh1 Hh2]
    · isplitl [Hh0]; · iexact Hh0
      isplitl [Hh1]; · iexact Hh1
      iexact Hh2
    isplitl [Hh3]; · iapply hb3; iexact Hh3
    isplitl [Hh4]; · iapply hb4; iexact Hh4
    iapply hb5; iexact Hh5
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply h7; iexact H7
  isplitl [H8]; · iapply h8; iexact H8
  isplitl [H9]; · iapply h9; iexact H9
  isplitl [H10]; · iapply h10; iexact H10
  isplitl [H11]; · iapply h11; iexact H11
  iapply h12; iexact H12

theorem bodyA (c : Dev nD) (t : Fin cfg0.N) (h0 : t.val % 11 = 0) (h1 : ¬t.val % 11 = 10) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  have hC : cfg0.N = 11 := N_0
  have hz : t.val = 0 := by omega
  have e3 : sum3 m c (t.val + 1) = step3 m c t k0_pay4 := by rw [sum3_step, hz]; rfl
  have e4 : sum4 m c (t.val + 1) = step4 m c t k0_pay5 := by rw [sum4_step, hz]; rfl
  have e5 : sum5 m c (t.val + 1) = step5 m c t k0_pay6 := by rw [sum5_step, hz]; rfl
  have r3 : res3 m c (t.val + 1) = R3 m c := if_neg (by omega)
  have r4 : res4 m c (t.val + 1) = R4 m c := if_neg (by omega)
  have r5 : res5 m c (t.val + 1) = R5 m c := if_neg (by omega)
  refine body_of m c t (fun W K => (runA c t (b0 m c t) (b1 m c t) (b2 m c t) (b3 m c t) (b4 m c t) (b5 m c t) (b6 m c t) (W0 m c) (W1 m c) (W2 m c) (R3 m c) (R4 m c) (R5 m c) h0 h1).2.2.2.2.2.2.2.2.2.2.2.2.2.2.2 W K) ?_ ?_
  · rw [show Phi m c t.val (Nat.le_of_lt t.isLt) = Pipeline.ΦDRG osem0 spec0 H0 R0 (V m) (V m) c from by
      obtain ⟨n, hn⟩ := t; obtain rfl : n = 0 := hz; rfl, PhiDRG0_in_eq]
  · refine post_of m c t ?_ ?_ ?_ ?_ ?_ ?_ ?_ ?_ ?_ ?_ ?_ ?_ ?_ ?_ ?_
    · exact owns_of c (ms0_7 t) _ _ (A7 c t (b0 m c t) (b1 m c t) (b2 m c t) (b3 m c t) (b4 m c t) (b5 m c t) (b6 m c t) (W0 m c) (W1 m c) (W2 m c) (R3 m c) (R4 m c) (R5 m c) h0 h1)
    · exact owns_of c (ms0_8 t) _ _ (A8 c t (b0 m c t) (b1 m c t) (b2 m c t) (b3 m c t) (b4 m c t) (b5 m c t) (b6 m c t) (W0 m c) (W1 m c) (W2 m c) (R3 m c) (R4 m c) (R5 m c) h0 h1)
    · exact owns_of c (ms0_9 t) _ _ (A9 c t (b0 m c t) (b1 m c t) (b2 m c t) (b3 m c t) (b4 m c t) (b5 m c t) (b6 m c t) (W0 m c) (W1 m c) (W2 m c) (R3 m c) (R4 m c) (R5 m c) h0 h1)
    · exact owns_of c (ms0_10 t) _ _ (A10 c t (b0 m c t) (b1 m c t) (b2 m c t) (b3 m c t) (b4 m c t) (b5 m c t) (b6 m c t) (W0 m c) (W1 m c) (W2 m c) (R3 m c) (R4 m c) (R5 m c) h0 h1)
    · exact owns_of c (ms0_11 t) _ _ (A11 c t (b0 m c t) (b1 m c t) (b2 m c t) (b3 m c t) (b4 m c t) (b5 m c t) (b6 m c t) (W0 m c) (W1 m c) (W2 m c) (R3 m c) (R4 m c) (R5 m c) h0 h1)
    · exact owns_of c (ms0_12 t) _ _ (A12 c t (b0 m c t) (b1 m c t) (b2 m c t) (b3 m c t) (b4 m c t) (b5 m c t) (b6 m c t) (W0 m c) (W1 m c) (W2 m c) (R3 m c) (R4 m c) (R5 m c) h0 h1)
    · exact owns_of c scM0_0 _ _ (AS0 c t (b0 m c t) (b1 m c t) (b2 m c t) (b3 m c t) (b4 m c t) (b5 m c t) (b6 m c t) (W0 m c) (W1 m c) (W2 m c) (R3 m c) (R4 m c) (R5 m c) h0 h1)
    · exact owns_of c scM0_1 _ _ (AS1 c t (b0 m c t) (b1 m c t) (b2 m c t) (b3 m c t) (b4 m c t) (b5 m c t) (b6 m c t) (W0 m c) (W1 m c) (W2 m c) (R3 m c) (R4 m c) (R5 m c) h0 h1)
    · exact owns_of c scM0_2 _ _ (AS2 c t (b0 m c t) (b1 m c t) (b2 m c t) (b3 m c t) (b4 m c t) (b5 m c t) (b6 m c t) (W0 m c) (W1 m c) (W2 m c) (R3 m c) (R4 m c) (R5 m c) h0 h1)
    · exact owns_of c scM0_3 _ _ (fun f => (AS3 c t (b0 m c t) (b1 m c t) (b2 m c t) (b3 m c t) (b4 m c t) (b5 m c t) (b6 m c t) (W0 m c) (W1 m c) (W2 m c) (R3 m c) (R4 m c) (R5 m c) h0 h1 f).trans e3.symm)
    · exact owns_of c scM0_4 _ _ (fun f => (AS4 c t (b0 m c t) (b1 m c t) (b2 m c t) (b3 m c t) (b4 m c t) (b5 m c t) (b6 m c t) (W0 m c) (W1 m c) (W2 m c) (R3 m c) (R4 m c) (R5 m c) h0 h1 f).trans e4.symm)
    · exact owns_of c scM0_5 _ _ (fun f => (AS5 c t (b0 m c t) (b1 m c t) (b2 m c t) (b3 m c t) (b4 m c t) (b5 m c t) (b6 m c t) (W0 m c) (W1 m c) (W2 m c) (R3 m c) (R4 m c) (R5 m c) h0 h1 f).trans e5.symm)
    · exact pt_of c hbM0_3 ((AH3 c t (b0 m c t) (b1 m c t) (b2 m c t) (b3 m c t) (b4 m c t) (b5 m c t) (b6 m c t) (W0 m c) (W1 m c) (W2 m c) (R3 m c) (R4 m c) (R5 m c) h0 h1).trans r3.symm)
    · exact pt_of c hbM0_4 ((AH4 c t (b0 m c t) (b1 m c t) (b2 m c t) (b3 m c t) (b4 m c t) (b5 m c t) (b6 m c t) (W0 m c) (W1 m c) (W2 m c) (R3 m c) (R4 m c) (R5 m c) h0 h1).trans r4.symm)
    · exact pt_of c hbM0_5 ((AH5 c t (b0 m c t) (b1 m c t) (b2 m c t) (b3 m c t) (b4 m c t) (b5 m c t) (b6 m c t) (W0 m c) (W1 m c) (W2 m c) (R3 m c) (R4 m c) (R5 m c) h0 h1).trans r5.symm)

theorem bodyB (c : Dev nD) (t : Fin cfg0.N) (h0 : ¬t.val % 11 = 0) (h1 : ¬t.val % 11 = 10) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  have hC : cfg0.N = 11 := N_0
  have hz : t.val ≠ 0 := by omega
  have e3 := sum3_step m c t
  have e4 := sum4_step m c t
  have e5 := sum5_step m c t
  have r3 : res3 m c (t.val + 1) = R3 m c := if_neg (by omega)
  have r4 : res4 m c (t.val + 1) = R4 m c := if_neg (by omega)
  have r5 : res5 m c (t.val + 1) = R5 m c := if_neg (by omega)
  have q3 : res3 m c t.val = R3 m c := if_neg (by omega)
  have q4 : res4 m c t.val = R4 m c := if_neg (by omega)
  have q5 : res5 m c t.val = R5 m c := if_neg (by omega)
  refine body_of m c t (fun W K => (runB c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).2.2.2.2.2.2.2.2.2.2.2.2.2.2.2 W K) ?_ ?_
  · rw [Phi_pos m c _ _ hz]
    unfold mid
    rw [q3, q4, q5]
  · refine post_of m c t ?_ ?_ ?_ ?_ ?_ ?_ ?_ ?_ ?_ ?_ ?_ ?_ ?_ ?_ ?_
    · exact owns_of c (ms0_7 t) _ _ (B7 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_8 t) _ _ (B8 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_9 t) _ _ (B9 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_10 t) _ _ (B10 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_11 t) _ _ (B11 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_12 t) _ _ (B12 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact .rfl
    · exact .rfl
    · exact .rfl
    · exact owns_of c scM0_3 _ _ (fun f => (BS3 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1 f).trans e3.symm)
    · exact owns_of c scM0_4 _ _ (fun f => (BS4 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1 f).trans e4.symm)
    · exact owns_of c scM0_5 _ _ (fun f => (BS5 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1 f).trans e5.symm)
    · exact pt_of c hbM0_3 ((BH3 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).trans r3.symm)
    · exact pt_of c hbM0_4 ((BH4 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).trans r4.symm)
    · exact pt_of c hbM0_5 ((BH5 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).trans r5.symm)

theorem bodyC (c : Dev nD) (t : Fin cfg0.N) (h0 : ¬t.val % 11 = 0) (h1 : t.val % 11 = 10) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  have hC : cfg0.N = 11 := N_0
  have hz : t.val ≠ 0 := by omega
  have e3 := sum3_step m c t
  have e4 := sum4_step m c t
  have e5 := sum5_step m c t
  have r3 : res3 m c (t.val + 1) = sum3 m c (t.val + 1) := if_pos (by omega)
  have r4 : res4 m c (t.val + 1) = sum4 m c (t.val + 1) := if_pos (by omega)
  have r5 : res5 m c (t.val + 1) = sum5 m c (t.val + 1) := if_pos (by omega)
  have q3 : res3 m c t.val = R3 m c := if_neg (by omega)
  have q4 : res4 m c t.val = R4 m c := if_neg (by omega)
  have q5 : res5 m c t.val = R5 m c := if_neg (by omega)
  refine body_of m c t (fun W K => (runC c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).2.2.2.2.2.2.2.2.2.2.2.2.2.2.2 W K) ?_ ?_
  · rw [Phi_pos m c _ _ hz]
    unfold mid
    rw [q3, q4, q5]
  · refine post_of m c t ?_ ?_ ?_ ?_ ?_ ?_ ?_ ?_ ?_ ?_ ?_ ?_ ?_ ?_ ?_
    · exact owns_of c (ms0_7 t) _ _ (C7 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_8 t) _ _ (C8 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_9 t) _ _ (C9 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_10 t) _ _ (C10 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_11 t) _ _ (C11 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact owns_of c (ms0_12 t) _ _ (C12 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1)
    · exact .rfl
    · exact .rfl
    · exact .rfl
    · exact owns_of c scM0_3 _ _ (fun f => (CS3 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1 f).trans e3.symm)
    · exact owns_of c scM0_4 _ _ (fun f => (CS4 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1 f).trans e4.symm)
    · exact owns_of c scM0_5 _ _ (fun f => (CS5 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1 f).trans e5.symm)
    · exact pt_of c hbM0_3 ((CH3 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).trans (r3.trans e3).symm)
    · exact pt_of c hbM0_4 ((CH4 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).trans (r4.trans e4).symm)
    · exact pt_of c hbM0_5 ((CH5 c t (b0 m c t) (b1 m c t) (b2 m c t) (b3 m c t) (b4 m c t) (b5 m c t) (b6 m c t) (W0 m c) (W1 m c) (W2 m c) (sum3 m c t.val) (sum4 m c t.val) (sum5 m c t.val) (R3 m c) (R4 m c) (R5 m c) h0 h1).trans (r5.trans e5).symm)

theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact bodyA m c t h0 (by omega)
  · by_cases h1 : t.val % 11 = 10
    · exact bodyC m c t h0 h1
    · exact bodyB m c t h0 h1

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- The buffers after the region: as it found them, but for the three results, at the sums. -/
def G (c : Dev nD) : (b : Ref sig .tc) → Buf (Elt F) ((c : Thread nD τ).loc b) :=
  Function.update (Function.update (Function.update ((V m) c) main_v4_6 (sum3 m c cfg0.N)) main_v4_7 (sum4 m c cfg0.N)) main_v4_8 (sum5 m c cfg0.N)
theorem G_3 (c : Dev nD) : G m c main_v4_6 = sum3 m c cfg0.N := by
  unfold G; simp only [Function.update_of_ne (show (main_v4_6 : Ref sig .tc) ≠ main_v4_7 by decide), Function.update_of_ne (show (main_v4_6 : Ref sig .tc) ≠ main_v4_8 by decide), Function.update_self]
theorem G_4 (c : Dev nD) : G m c main_v4_7 = sum4 m c cfg0.N := by
  unfold G; simp only [Function.update_of_ne (show (main_v4_7 : Ref sig .tc) ≠ main_v4_8 by decide), Function.update_self]
theorem G_5 (c : Dev nD) : G m c main_v4_8 = sum5 m c cfg0.N := by
  unfold G; simp only [Function.update_self]

theorem held_eq (c : Dev nD) :
    (Pipeline.routed R0 c (G m c) : sProp 𝕄)
      = iprop(hbPt0 c hbM0_3 (sum3 m c cfg0.N) ∗ hbPt0 c hbM0_4 (sum4 m c cfg0.N) ∗ hbPt0 c hbM0_5 (sum5 m c cfg0.N)) := by
  unfold Pipeline.routed; rw [BI.bigSep_eq_bigSepL_of_eq [main_v4_6, main_v4_7, main_v4_8] (by decide) (by decide)]
  simp only [BI.bigSepL_cons_cons, BI.bigSepL_singleton, G_3, G_4, G_5]; try rfl

theorem out_eq (c : Dev nD) :
    (Pipeline.ΦDRG osem0 spec0 H0 R0 (V m) (G m) c : sProp 𝕄)
      = iprop(iprop((∃ d, owns (c : Thread nD τ) scM0_0 fullShare d) ∗
      (∃ d, owns (c : Thread nD τ) scM0_1 fullShare d) ∗
      (∃ d, owns (c : Thread nD τ) scM0_2 fullShare d) ∗
      (∃ d, owns (c : Thread nD τ) scM0_3 fullShare d) ∗
      (∃ d, owns (c : Thread nD τ) scM0_4 fullShare d) ∗
      (∃ d, owns (c : Thread nD τ) scM0_5 fullShare d))
        ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
        ∗ iprop(hbPt0 c hbM0_0 (W0 m c) ∗ hbPt0 c hbM0_1 (W1 m c) ∗ hbPt0 c hbM0_2 (W2 m c))
        ∗ iprop(hbPt0 c hbM0_3 (sum3 m c cfg0.N) ∗ hbPt0 c hbM0_4 (sum4 m c cfg0.N) ∗ hbPt0 c hbM0_5 (sum5 m c cfg0.N))) := by
  rw [Pipeline.ΦDRG_eq, scopedRest0_eq, ownSems00_eq, hbmPts0_eq, held_eq]
  simp only [scM0_0, scM0_1, scM0_2, scM0_3, scM0_4, scM0_5, owns_whole]; try rfl

theorem hin (c : Dev nD) : Pipeline.ΦDRG osem0 spec0 H0 R0 (V m) (V m) c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦDRG osem0 spec0 H0 R0 (V m) (G m) c := by
  have hl : (dats m 0 c).Φ (Fin.last cfg0.N) = mid m c cfg0.N :=
    (Phi_pos m c cfg0.N le_rfl (by rw [show cfg0.N = 11 from N_0]; omega))
  rw [hl, out_eq]
  unfold mid
  rw [show res3 m c cfg0.N = sum3 m c cfg0.N from if_pos rfl, show res4 m c cfg0.N = sum4 m c cfg0.N from if_pos rfl,
    show res5 m c cfg0.N = sum5 m c cfg0.N from if_pos rfl]
  iintro ⟨⟨HS0, HS1, HS2, HS3, HS4, HS5⟩, HR⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact HR

set_option backward.isDefEq.respectTransparency.types false in
/-- Every execution ends, every counter at zero, with the outputs tiled and the results at the sums. -/
theorem run_main : θ_run defs (onTc (τ := τ) (main (F := F))) (s₀ m ρ)
    (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

/-- The frame: the arguments end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1.toR) (run_main m ρ)))
    ((θ_run defs _ _).mono (fun _ h => h.2) (run_main m ρ))

end Cert.Merge.Run

end
-- ==== Proof.MergeFrames.lean ====
/-
  The frames. The two programs have one text, so their bodies and tables are equal at the chip's values, and the run serves both.
-/
module

public import proofs.«01_k».proof.Defs
public import proofs.«01_k».proof.Proof.Gen.Kernel
public import proofs.«01_k».proof.Proof.MergeRun

@[expose] public section

set_option maxRecDepth 16384

noncomputable section

open Idealize.ShloMosaic Idealize.SL.Sem

namespace Cert.Merge.Frames

theorem body_eq : @Kernel.cc0_merge_bwd Bits _ _ = @KernelIdeal.cc0_merge_bwd Bits _ _ := rfl

-- the body takes some sixty operands, which are compared one by one
set_option maxHeartbeats 1000000 in
theorem table_eq : @Kernel.defs₀ Bits _ _ = @KernelIdeal.defs₀ Bits _ _ := by
  unfold Kernel.defs₀ KernelIdeal.defs₀
  have hb := body_eq
  generalize @Kernel.cc0_merge_bwd Bits _ _ = B at hb ⊢
  generalize @KernelIdeal.cc0_merge_bwd Bits _ _ = B' at hb ⊢
  subst hb
  refine congrArg Defs.onTc (funext fun l => funext fun a => ?_)
  obtain ⟨n, hn⟩ := l
  cases n with
  | zero =>
    obtain ⟨t, s⟩ := a
    rfl
  | succ n => exact absurd hn (Nat.not_lt.2 (Nat.le_add_left _ _))

theorem defs_eq : Kernel.defs (F := Bits) = KernelIdeal.defs := congrArg (Pipeline.defs Kernel.pcfgs) table_eq

/-- The program at the chip's values leaves its arguments and its semaphores as they were. -/
theorem frame_kernel : Cert.quiescent_Kernel := fun m ρ _ =>
  (congrArg (fun d => θ_run d (onTc (τ := Kernel.τ) (Kernel.main (F := Bits))) ⟨m, fun _ => 0, ρ⟩ _) defs_eq).mpr
    (Cert.Merge.Run.frame_main (F := Bits) m ρ)

/-- So does the program at the ideal values. -/
theorem frame_ideal : Cert.quiescent_KernelIdeal := fun m ρ _ => Cert.Merge.Run.frame_main m ρ

end Cert.Merge.Frames

end
-- ==== Proof.MergeRow.lean ====
/-
  The gradient of one row of the gate merge, over the extended reals.

  `Wts` holds the weights of the merge and `Row` what one row (one token) of the operands holds. Each definition is
  one value of the backward pass at that row: the branches' projections, the mixed row, its product with the output
  weights, the norm's statistics, and the gradients. The gradients of the weights are the sums over all rows of
  `gW`, `gO` and `gP`.
-/
module

public import Idealize.ShloMosaic.Lib.Pointwise

@[expose] public section

noncomputable section

open Idealize.ShloMosaic

namespace Cert.Merge

/-- The weights: the four branch projections, the output projection, and the scale of the norm. -/
@[ext] structure Wts where
  W : Fin 4 → Fin 512 → Fin 1024 → EReal
  O : Fin 1024 → Fin 1024 → EReal
  P : Fin 1024 → EReal

/-- One row of the operands: the four branches, the four gates' inputs, and the cotangent. -/
@[ext] structure Row where
  y : Fin 4 → Fin 512 → EReal
  g : Fin 4 → Fin 1024 → EReal
  ct : Fin 1024 → EReal

variable (w : Wts) (r : Row)

namespace Row

/-- The gate of branch `n`. -/
def s (n : Fin 4) (d : Fin 1024) : EReal := Ideal.logistic (r.g n d)
/-- The derivative of the gate by its input. -/
def s1 (n : Fin 4) (d : Fin 1024) : EReal := r.s n d * (1 - r.s n d)
/-- Branch `n`, projected. -/
def pb (n : Fin 4) (d : Fin 1024) : EReal := ∑ k : Fin 512, r.y n k * w.W n k d
/-- The gated sum of the projected branches. -/
def mix (d : Fin 1024) : EReal := ∑ n : Fin 4, r.s n d * r.pb w n d
/-- Its product with the output weights. -/
def z (e : Fin 1024) : EReal := ∑ d : Fin 1024, r.mix w d * w.O d e
/-- The mean square of `z`, with the norm's small constant added. -/
def var : EReal := Ideal.div (∑ e : Fin 1024, r.z w e * r.z w e) (Ideal.ofBits .f32 0x44800000#32)
  + Ideal.ofBits .f32 0x358637BD#32
/-- The factor of the norm. -/
def rs : EReal := Ideal.rsqrt (r.var w)
/-- The derivative of that factor by the mean square. -/
def q : EReal := Ideal.ofBits .f32 0xBF000000#32 * Ideal.div (r.rs w) (r.var w)
/-- The cotangent times the scale of the norm. -/
def cw (e : Fin 1024) : EReal := r.ct e * w.P e
/-- The gradient by the sum of squares. -/
def ds : EReal := Ideal.div ((∑ e : Fin 1024, r.z w e * r.cw w e) * r.q w) (Ideal.ofBits .f32 0x44800000#32)
/-- The gradient by `z`. -/
def dz (e : Fin 1024) : EReal := r.cw w e * r.rs w + r.z w e * r.ds w + r.ds w * r.z w e
/-- The gradient by the mixed row. -/
def dm (d : Fin 1024) : EReal := ∑ e : Fin 1024, r.dz w e * w.O d e
/-- The gradient by projected branch `n`. -/
def dp (n : Fin 4) (d : Fin 1024) : EReal := r.s n d * r.dm w d
/-- The gradient by the input of gate `n`. -/
def dg (n : Fin 4) (d : Fin 1024) : EReal := r.dm w d * r.pb w n d * r.s1 n d
/-- The gradient by branch `n`. -/
def dy (n : Fin 4) (k : Fin 512) : EReal := ∑ d : Fin 1024, r.dp w n d * w.W n k d
/-- The row's part of the gradient by the branch projections. -/
def gW (n : Fin 4) (k : Fin 512) (d : Fin 1024) : EReal := r.dp w n d * r.y n k
/-- The row's part of the gradient by the output weights. -/
def gO (d e : Fin 1024) : EReal := r.dz w e * r.mix w d
/-- The row's part of the gradient by the scale of the norm. -/
def gP (e : Fin 1024) : EReal := r.z w e * r.rs w * r.ct e

end Row

/-- Place `1024 n + d` of a row of four gates of 1024. -/
abbrev gatePos (n : Fin 4) (d : Fin 1024) : Fin 4096 := ⟨1024 * n.val + d.val, by omega⟩

/-- Row `t` of arrays of `T` rows. -/
abbrev rowOf {T : Nat} (x0 x1 x2 x3 : (⟨2, ![T, 512]⟩ : Shape).Idx → EReal) (x4 : (⟨2, ![T, 4096]⟩ : Shape).Idx → EReal)
    (x6 : (⟨2, ![T, 1024]⟩ : Shape).Idx → EReal) (t : Fin T) : Row where
  y n k := (![x0, x1, x2, x3] n) (ix2 t k)
  g n d := x4 (ix2 t (gatePos n d))
  ct e := x6 (ix2 t e)

/-- The weights as arrays. -/
abbrev wtsOf (w0 : (⟨3, ![4, 512, 1024]⟩ : Shape).Idx → EReal) (w1 : (⟨2, ![1024, 1024]⟩ : Shape).Idx → EReal)
    (p : Fin 1024 → EReal) : Wts where
  W n k d := w0 (ix3 n k d)
  O d e := w1 (ix2 d e)
  P := p

end Cert.Merge

end
-- ==== Proof.MergeBlock.lean ====
/-
  The kernel's block values at an index: row `i` of a block is the row gradient of `MergeRow` at that row.
-/
module

public import proofs.«01_k».proof.Proof.Gen.KernelIdeal.Skeleton
public import proofs.«01_k».proof.Proof.MergeRow
public import proofs.«01_k».proof.Proof.MergeDefs

@[expose] public section

set_option maxRecDepth 16384

noncomputable section

open Idealize.ShloMosaic Idealize.ShloMosaic.TcCoe Idealize.SL.Sem

namespace Cert.Merge.Block

open Cert.KernelIdeal Cert.KernelIdeal.Gen Cert.Merge

variable (x0 x1 x2 x3 : Vec Ideal S192x512 .f32) (x4 : Vec Ideal S192x4096 .f32) (x6 : Vec Ideal S192x1024 .f32)
  (w0 : Vec Ideal S4x512x1024 .bf16) (w1 : Vec Ideal S1024x1024 .bf16) (w2 : Vec Ideal S1x1024 .f32)

/-- The block's weights and its row `i`. -/
abbrev bw : Wts := wtsOf w0 w1 (fun e => w2 (ix2 0 e))
abbrev br (i : Fin 192) : Row := rowOf x0 x1 x2 x3 x4 x6 i

theorem s_0 (i : Fin 192) (d : Fin 1024) : k0_pay8 (F := Ideal) x4 (ix2 i d) = (br x0 x1 x2 x3 x4 x6 i).s 0 d := by
  pointwise [k0_pay8, k0_pay7, Row.s]
  exact congrArg (fun k => Ideal.logistic (x4 (ix2 i k))) (Fin.ext (show d.val = 1024 * 0 + d.val by omega))
theorem s_1 (i : Fin 192) (d : Fin 1024) : k0_pay14 (F := Ideal) x4 (ix2 i d) = (br x0 x1 x2 x3 x4 x6 i).s 1 d := by
  pointwise [k0_pay14, k0_pay7, Row.s]
  exact congrArg (fun k => Ideal.logistic (x4 (ix2 i k))) (Fin.ext (show 1024 + d.val = 1024 * 1 + d.val by omega))
theorem s_2 (i : Fin 192) (d : Fin 1024) : k0_pay20 (F := Ideal) (k0_pay7 x4) (ix2 i d) = (br x0 x1 x2 x3 x4 x6 i).s 2 d := by
  pointwise [k0_pay20, k0_pay7, Row.s]
  exact congrArg (fun k => Ideal.logistic (x4 (ix2 i k))) (Fin.ext (show 2048 + d.val = 1024 * 2 + d.val by omega))
theorem s_3 (i : Fin 192) (d : Fin 1024) : k0_pay25 (F := Ideal) (k0_pay7 x4) (ix2 i d) = (br x0 x1 x2 x3 x4 x6 i).s 3 d := by
  pointwise [k0_pay25, k0_pay7, Row.s]
  exact congrArg (fun k => Ideal.logistic (x4 (ix2 i k))) (Fin.ext (show 3072 + d.val = 1024 * 3 + d.val by omega))
theorem s1_0 (i : Fin 192) (d : Fin 1024) : k0_pay9 (F := Ideal) x4 (ix2 i d) = (br x0 x1 x2 x3 x4 x6 i).s1 0 d := by
  pointwise [k0_pay9, Row.s1, s_0 x0 x1 x2 x3 x4 x6]
theorem s1_1 (i : Fin 192) (d : Fin 1024) : k0_pay15 (F := Ideal) x4 (ix2 i d) = (br x0 x1 x2 x3 x4 x6 i).s1 1 d := by
  pointwise [k0_pay15, Row.s1, s_1 x0 x1 x2 x3 x4 x6]
theorem s1_2 (i : Fin 192) (d : Fin 1024) : k0_pay21 (F := Ideal) (k0_pay7 x4) (ix2 i d) = (br x0 x1 x2 x3 x4 x6 i).s1 2 d := by
  pointwise [k0_pay21, Row.s1, s_2 x0 x1 x2 x3 x4 x6]
theorem s1_3 (i : Fin 192) (d : Fin 1024) : k0_pay26 (F := Ideal) (k0_pay7 x4) (ix2 i d) = (br x0 x1 x2 x3 x4 x6 i).s1 3 d := by
  pointwise [k0_pay26, Row.s1, s_3 x0 x1 x2 x3 x4 x6]
theorem pb_0 (i : Fin 192) (d : Fin 1024) : k0_pay12 (F := Ideal) x0 w0 (ix2 i d) = (br x0 x1 x2 x3 x4 x6 i).pb (bw w0 w1 w2) 0 d := by
  pointwise [k0_pay12, k0_pay11, k0_pay10, Row.pb]
theorem pb_1 (i : Fin 192) (d : Fin 1024) : k0_pay18 (F := Ideal) x1 w0 (ix2 i d) = (br x0 x1 x2 x3 x4 x6 i).pb (bw w0 w1 w2) 1 d := by
  pointwise [k0_pay18, k0_pay17, k0_pay16, Row.pb]
theorem pb_2 (i : Fin 192) (d : Fin 1024) : k0_pay24 (F := Ideal) x2 w0 (ix2 i d) = (br x0 x1 x2 x3 x4 x6 i).pb (bw w0 w1 w2) 2 d := by
  pointwise [k0_pay24, k0_pay23, k0_pay22, Row.pb]
theorem pb_3 (i : Fin 192) (d : Fin 1024) : k0_pay29 (F := Ideal) x3 w0 (ix2 i d) = (br x0 x1 x2 x3 x4 x6 i).pb (bw w0 w1 w2) 3 d := by
  pointwise [k0_pay29, k0_pay28, k0_pay27, Row.pb]

theorem mix_at (i : Fin 192) (d : Fin 1024) :
    mixV x0 x1 x2 x3 x4 w0 (ix2 i d) = (br x0 x1 x2 x3 x4 x6 i).mix (bw w0 w1 w2) d := by
  pointwise [mixV, k0_pay30, k0_pay13, k0_pay19, s_0 x0 x1 x2 x3 x4 x6, s_1 x0 x1 x2 x3 x4 x6, s_2 x0 x1 x2 x3 x4 x6,
    s_3 x0 x1 x2 x3 x4 x6, pb_0 x0 x1 x2 x3 x4 x6 w0 w1 w2, pb_1 x0 x1 x2 x3 x4 x6 w0 w1 w2,
    pb_2 x0 x1 x2 x3 x4 x6 w0 w1 w2, pb_3 x0 x1 x2 x3 x4 x6 w0 w1 w2, Row.mix, Fin.sum_univ_four]

theorem z_at (i : Fin 192) (e : Fin 1024) :
    zV x0 x1 x2 x3 x4 w0 w1 (ix2 i e) = (br x0 x1 x2 x3 x4 x6 i).z (bw w0 w1 w2) e := by
  have h := fun d => mix_at x0 x1 x2 x3 x4 x6 w0 w1 w2 i d
  unfold mixV at h
  pointwise [zV, k0_pay31, h, Row.z]

theorem var_at (i : Fin 192) :
    k0_pay32 x2 x3 (k0_pay7 x4) w0 w1 (k0_pay13 x0 x4 w0) (k0_pay19 x1 x4 w0) (ix2 i 0)
      = (br x0 x1 x2 x3 x4 x6 i).var (bw w0 w1 w2) := by
  have h := fun d => z_at x0 x1 x2 x3 x4 x6 w0 w1 w2 i d
  unfold zV at h
  pointwise [k0_pay32, h, Row.var]

theorem r_at (i : Fin 192) :
    rV x0 x1 x2 x3 x4 w0 w1 (ix2 i 0) = (br x0 x1 x2 x3 x4 x6 i).rs (bw w0 w1 w2) := by
  have h := var_at x0 x1 x2 x3 x4 x6 w0 w1 w2 i
  pointwise [rV, k0_pay33, h, Row.rs]

theorem q_at (i : Fin 192) :
    qV x0 x1 x2 x3 x4 w0 w1 (ix2 i 0) = (br x0 x1 x2 x3 x4 x6 i).q (bw w0 w1 w2) := by
  have h := var_at x0 x1 x2 x3 x4 x6 w0 w1 w2 i
  have h' := r_at x0 x1 x2 x3 x4 x6 w0 w1 w2 i
  unfold rV at h'
  pointwise [qV, k0_pay34, h, h', Row.q]

theorem cw_at (i : Fin 192) (e : Fin 1024) :
    k0_pay37 (F := Ideal) w2 x6 (ix2 i e) = (br x0 x1 x2 x3 x4 x6 i).cw (bw w0 w1 w2) e := by
  pointwise [k0_pay37, k0_pay35, Row.cw]

theorem sz_at (i : Fin 192) :
    szV x0 x1 x2 x3 x4 x6 w0 w1 w2 (ix1 i)
      = ∑ e : Fin 1024, (br x0 x1 x2 x3 x4 x6 i).z (bw w0 w1 w2) e * (br x0 x1 x2 x3 x4 x6 i).cw (bw w0 w1 w2) e := by
  have h := fun d => z_at x0 x1 x2 x3 x4 x6 w0 w1 w2 i d
  unfold zV at h
  pointwise [szV, k0_pay38, h, cw_at x0 x1 x2 x3 x4 x6 w0 w1 w2]

theorem gP_at (e : Fin 1024) :
    gPV x0 x1 x2 x3 x4 x6 w0 w1 (ix2 0 e) = ∑ i : Fin 192, (br x0 x1 x2 x3 x4 x6 i).gP (bw w0 w1 w2) e := by
  have h := fun i d => z_at x0 x1 x2 x3 x4 x6 w0 w1 w2 i d
  have h' := fun i => r_at x0 x1 x2 x3 x4 x6 w0 w1 w2 i
  unfold zV at h
  unfold rV at h'
  pointwise [gPV, k0_pay36, k0_pay35, h, h', Row.gP]

theorem dz_at (i : Fin 192) (e : Fin 1024) :
    dzV x0 x1 x2 x3 x4 x6 w0 w1 w2 (ix2 i e) = (br x0 x1 x2 x3 x4 x6 i).dz (bw w0 w1 w2) e := by
  pointwise [dzV, k0_pay39, z_at x0 x1 x2 x3 x4 x6 w0 w1 w2, r_at x0 x1 x2 x3 x4 x6 w0 w1 w2,
    q_at x0 x1 x2 x3 x4 x6 w0 w1 w2, cw_at x0 x1 x2 x3 x4 x6 w0 w1 w2, sz_at x0 x1 x2 x3 x4 x6 w0 w1 w2,
    Row.dz, Row.ds]
  have hq : ∀ x : Fin 1, qV x0 x1 x2 x3 x4 w0 w1 (ix2 i x) = (br x0 x1 x2 x3 x4 x6 i).q (bw w0 w1 w2) :=
    fun x => by rw [Subsingleton.elim x 0]; exact q_at x0 x1 x2 x3 x4 x6 w0 w1 w2 i
  simp only [hq, Fin.sum_univ_one]

theorem gO_at (d e : Fin 1024) :
    gOV x0 x1 x2 x3 x4 x6 w0 w1 w2 (ix2 d e) = ∑ i : Fin 192, (br x0 x1 x2 x3 x4 x6 i).gO (bw w0 w1 w2) d e := by
  have h := fun i d => dz_at x0 x1 x2 x3 x4 x6 w0 w1 w2 i d
  unfold dzV at h
  pointwise [gOV, k0_pay40, h, mix_at x0 x1 x2 x3 x4 x6 w0 w1 w2, Row.gO]

theorem dm_at (i : Fin 192) (d : Fin 1024) :
    dmV x0 x1 x2 x3 x4 x6 w0 w1 w2 (ix2 i d) = (br x0 x1 x2 x3 x4 x6 i).dm (bw w0 w1 w2) d := by
  have h := fun i d => dz_at x0 x1 x2 x3 x4 x6 w0 w1 w2 i d
  unfold dzV at h
  pointwise [dmV, k0_pay41, h, Row.dm]

/-- The gradients by the projected branches. -/
theorem dp_0 (i : Fin 192) (d : Fin 1024) :
    k0_pay51 (k0_pay8 x4) (dmV x0 x1 x2 x3 x4 x6 w0 w1 w2) (ix2 i d)
      = (br x0 x1 x2 x3 x4 x6 i).dp (bw w0 w1 w2) 0 d := by
  pointwise [k0_pay51, s_0 x0 x1 x2 x3 x4 x6, dm_at x0 x1 x2 x3 x4 x6 w0 w1 w2, Row.dp]
theorem dp_1 (i : Fin 192) (d : Fin 1024) :
    k0_pay49 (k0_pay14 x4) (dmV x0 x1 x2 x3 x4 x6 w0 w1 w2) (ix2 i d)
      = (br x0 x1 x2 x3 x4 x6 i).dp (bw w0 w1 w2) 1 d := by
  pointwise [k0_pay49, s_1 x0 x1 x2 x3 x4 x6, dm_at x0 x1 x2 x3 x4 x6 w0 w1 w2, Row.dp]
theorem dp_2 (i : Fin 192) (d : Fin 1024) :
    dp2V x0 x1 x2 x3 x4 x6 w0 w1 w2 (ix2 i d) = (br x0 x1 x2 x3 x4 x6 i).dp (bw w0 w1 w2) 2 d := by
  have h := fun i d => dm_at x0 x1 x2 x3 x4 x6 w0 w1 w2 i d
  unfold dmV at h
  pointwise [dp2V, k0_pay45, s_2 x0 x1 x2 x3 x4 x6, h, Row.dp]
theorem dp_3 (i : Fin 192) (d : Fin 1024) :
    dp3V x0 x1 x2 x3 x4 x6 w0 w1 w2 (ix2 i d) = (br x0 x1 x2 x3 x4 x6 i).dp (bw w0 w1 w2) 3 d := by
  have h := fun i d => dm_at x0 x1 x2 x3 x4 x6 w0 w1 w2 i d
  unfold dmV at h
  pointwise [dp3V, k0_pay42, s_3 x0 x1 x2 x3 x4 x6, h, Row.dp]

theorem dy_0 (i : Fin 192) (k : Fin 512) :
    k0_pay52 (k0_pay8 x4) (k0_pay10 w0) (dmV x0 x1 x2 x3 x4 x6 w0 w1 w2) (ix2 i k)
      = (br x0 x1 x2 x3 x4 x6 i).dy (bw w0 w1 w2) 0 k := by
  pointwise [k0_pay52, k0_pay10, dp_0 x0 x1 x2 x3 x4 x6 w0 w1 w2, Row.dy]
theorem dy_1 (i : Fin 192) (k : Fin 512) :
    k0_pay50 (k0_pay14 x4) (k0_pay16 w0) (dmV x0 x1 x2 x3 x4 x6 w0 w1 w2) (ix2 i k)
      = (br x0 x1 x2 x3 x4 x6 i).dy (bw w0 w1 w2) 1 k := by
  pointwise [k0_pay50, k0_pay16, dp_1 x0 x1 x2 x3 x4 x6 w0 w1 w2, Row.dy]
theorem dy_2 (i : Fin 192) (k : Fin 512) :
    dy2V x0 x1 x2 x3 x4 x6 w0 w1 w2 (ix2 i k) = (br x0 x1 x2 x3 x4 x6 i).dy (bw w0 w1 w2) 2 k := by
  have h := fun i d => dp_2 x0 x1 x2 x3 x4 x6 w0 w1 w2 i d
  unfold dp2V at h
  pointwise [dy2V, k0_pay46, k0_pay22, h, Row.dy]
theorem dy_3 (i : Fin 192) (k : Fin 512) :
    dy3V x0 x1 x2 x3 x4 x6 w0 w1 w2 (ix2 i k) = (br x0 x1 x2 x3 x4 x6 i).dy (bw w0 w1 w2) 3 k := by
  have h := fun i d => dp_3 x0 x1 x2 x3 x4 x6 w0 w1 w2 i d
  unfold dp3V at h
  pointwise [dy3V, k0_pay43, k0_pay27, h, Row.dy]

theorem gWp_at (n : Fin 4) (k : Fin 512) (d : Fin 1024) :
    gWpV x0 x1 x2 x3 x4 x6 w0 w1 w2 (ix3 n k d)
      = if n.val < 2 then 0 else ∑ i : Fin 192, (br x0 x1 x2 x3 x4 x6 i).gW (bw w0 w1 w2) n k d := by
  have h := fun i d => dp_2 x0 x1 x2 x3 x4 x6 w0 w1 w2 i d
  have h' := fun i d => dp_3 x0 x1 x2 x3 x4 x6 w0 w1 w2 i d
  unfold dp2V at h
  unfold dp3V at h'
  fin_cases n
  all_goals
    pointwise [gWpV, k0_pay47, k0_pay23, k0_pay28, h, h', Row.gW]
theorem gW_at (n : Fin 4) (k : Fin 512) (d : Fin 1024) :
    gWV x0 x1 x2 x3 x4 x6 w0 w1 w2 (ix3 n k d)
      = ∑ i : Fin 192, (br x0 x1 x2 x3 x4 x6 i).gW (bw w0 w1 w2) n k d := by
  fin_cases n
  all_goals
    pointwise [gWV, k0_pay53, k0_pay11, k0_pay17, gWp_at x0 x1 x2 x3 x4 x6 w0 w1 w2,
      dp_0 x0 x1 x2 x3 x4 x6 w0 w1 w2, dp_1 x0 x1 x2 x3 x4 x6 w0 w1 w2, Row.gW]

theorem dg2_at (i : Fin 192) (d : Fin 1024) :
    dg2V x0 x1 x2 x3 x4 x6 w0 w1 w2 (ix2 i d) = (br x0 x1 x2 x3 x4 x6 i).dg (bw w0 w1 w2) 2 d := by
  have h := fun i d => dm_at x0 x1 x2 x3 x4 x6 w0 w1 w2 i d
  unfold dmV at h
  pointwise [dg2V, k0_pay48, h, pb_2 x0 x1 x2 x3 x4 x6 w0 w1 w2, s1_2 x0 x1 x2 x3 x4 x6, Row.dg]
theorem dg3_at (i : Fin 192) (n : Fin 4) (d : Fin 1024) :
    dg3V x0 x1 x2 x3 x4 x6 w0 w1 w2 (ix2 i (gatePos n d))
      = if n.val < 3 then 0 else (br x0 x1 x2 x3 x4 x6 i).dg (bw w0 w1 w2) n d := by
  have h := fun i d => dm_at x0 x1 x2 x3 x4 x6 w0 w1 w2 i d
  unfold dmV at h
  fin_cases n
  all_goals
    pointwise [dg3V, k0_pay44, h, pb_3 x0 x1 x2 x3 x4 x6 w0 w1 w2, s1_3 x0 x1 x2 x3 x4 x6, Row.dg]
  all_goals split_ifs <;> first | rfl | omega
theorem dg_at (i : Fin 192) (n : Fin 4) (d : Fin 1024) :
    dgV x0 x1 x2 x3 x4 x6 w0 w1 w2 (ix2 i (gatePos n d)) = (br x0 x1 x2 x3 x4 x6 i).dg (bw w0 w1 w2) n d := by
  have h0 := (dg3_at x0 x1 x2 x3 x4 x6 w0 w1 w2 i 0 d).trans (if_pos (by decide))
  have h1 := (dg3_at x0 x1 x2 x3 x4 x6 w0 w1 w2 i 1 d).trans (if_pos (by decide))
  have h2 := (dg3_at x0 x1 x2 x3 x4 x6 w0 w1 w2 i 2 d).trans (if_pos (by decide))
  have h3 := (dg3_at x0 x1 x2 x3 x4 x6 w0 w1 w2 i 3 d).trans (if_neg (by decide))
  fin_cases n
  all_goals
    pointwise [dgV, k0_pay54, dg2_at x0 x1 x2 x3 x4 x6 w0 w1 w2, dm_at x0 x1 x2 x3 x4 x6 w0 w1 w2,
      pb_0 x0 x1 x2 x3 x4 x6 w0 w1 w2, pb_1 x0 x1 x2 x3 x4 x6 w0 w1 w2, s1_0 x0 x1 x2 x3 x4 x6,
      s1_1 x0 x1 x2 x3 x4 x6]
  all_goals simp only [h0, h1, h2, h3]
  all_goals split_ifs <;> first | omega | simp [Row.dg]

end Cert.Merge.Block

end
-- ==== Proof.MergeRef.lean ====
/-
  The reference's values at an index: at row `t` they are the row gradients of `MergeRow`, and the gradients of the
  weights are their sums over the rows.
-/
module

public import proofs.«01_k».proof.Proof.Gen.ReferenceIdeal.Read
public import proofs.«01_k».proof.Proof.MergeRow

@[expose] public section

set_option maxRecDepth 16384

noncomputable section

open Idealize.ShloMosaic Idealize.ShloMosaic.TcCoe Idealize.SL.Sem

namespace Cert.Merge.Ref

open Cert.ReferenceIdeal Cert.ReferenceIdeal.Gen Cert.ReferenceIdeal.Read Cert.Merge

variable (x0 x1 x2 x3 : (⟨S2112x512, .f32⟩ : BufTy).Contents (Elt Ideal))
  (x4 : (⟨S2112x4096, .f32⟩ : BufTy).Contents (Elt Ideal)) (x7 : (⟨S4x512x1024, .f32⟩ : BufTy).Contents (Elt Ideal))
  (x8 : (⟨S1024x1024, .f32⟩ : BufTy).Contents (Elt Ideal)) (x9 : (⟨S1024, .f32⟩ : BufTy).Contents (Elt Ideal))
  (x10 : (⟨S2112x1024, .f32⟩ : BufTy).Contents (Elt Ideal))

/-- The weights, and row `t` of the arguments. -/
abbrev wt : Wts := wtsOf x7 x8 (fun e => x9 (ix1 e))
abbrev rt (t : Fin 2112) : Row := rowOf x0 x1 x2 x3 x4 x10 t

theorem y_at (t : Fin 2112) (n : Fin 4) (k : Fin 512) :
    val_main_v4 (F := Ideal) x0 x1 x2 x3 (ix3 t n k) = (rt x0 x1 x2 x3 x4 x10 t).y n k := by
  fin_cases n
  all_goals
    pointwise [val_main_v4, val_main_v0, val_main_v1, val_main_v2, val_main_v3]
    try rfl

theorem pb_at (t : Fin 2112) (n : Fin 4) (d : Fin 1024) :
    val_main_v6 (F := Ideal) x0 x1 x2 x3 x7 (ix3 t n d) = (rt x0 x1 x2 x3 x4 x10 t).pb (wt x7 x8 x9) n d := by
  pointwise [val_main_v6, val_main_v5, y_at x0 x1 x2 x3 x4 x10, Row.pb]
  exact Finset.sum_congr rfl fun k _ => mul_comm _ _

theorem s_at (t : Fin 2112) (n : Fin 4) (d : Fin 1024) :
    val_main_v13 (F := Ideal) x4 (ix3 t n d) = (rt x0 x1 x2 x3 x4 x10 t).s n d := by
  pointwise [val_main_v13, val_main_v12, val_main_v11, val_main_v10, val_main_v9, val_main_v8, val_main_v7, val_main_cst, val_main_cst_0, Row.s, Ideal.logistic]
  exact congrArg (fun k => Ideal.div 1 (1 + Ideal.exp (-x4 (ix2 t k))))
    (Fin.ext (show n.val * 1024 + d.val = 1024 * n.val + d.val by omega))

theorem s1_at (t : Fin 2112) (n : Fin 4) (d : Fin 1024) :
    val_main_v16 (F := Ideal) x4 (ix3 t n d) = (rt x0 x1 x2 x3 x4 x10 t).s1 n d := by
  pointwise [val_main_v16, val_main_v15, val_main_v14, val_main_cst_1, s_at x0 x1 x2 x3 x4 x10, Row.s1]

theorem mix_at (t : Fin 2112) (d : Fin 1024) :
    val_main_v18 (F := Ideal) x0 x1 x2 x3 x4 x7 (ix2 t d) = (rt x0 x1 x2 x3 x4 x10 t).mix (wt x7 x8 x9) d := by
  pointwise [val_main_v18, val_main_v17, val_main_cst_2, s_at x0 x1 x2 x3 x4 x10, pb_at x0 x1 x2 x3 x4 x7 x8 x9 x10, Row.mix]

theorem z_at (t : Fin 2112) (e : Fin 1024) :
    val_main_v19 (F := Ideal) x0 x1 x2 x3 x4 x7 x8 (ix2 t e) = (rt x0 x1 x2 x3 x4 x10 t).z (wt x7 x8 x9) e := by
  pointwise [val_main_v19, mix_at x0 x1 x2 x3 x4 x7 x8 x9 x10, Row.z]

theorem var_at (t : Fin 2112) :
    val_main_v26 (F := Ideal) x0 x1 x2 x3 x4 x7 x8 (ix2 t 0) = (rt x0 x1 x2 x3 x4 x10 t).var (wt x7 x8 x9) := by
  pointwise [val_main_v26, val_main_v25, val_main_v24, val_main_v23, val_main_v22, val_main_v21, val_main_v20, val_main_cst_3, val_main_cst_4, val_main_cst_5, z_at x0 x1 x2 x3 x4 x7 x8 x9 x10, Row.var]

theorem r_at (t : Fin 2112) :
    val_main_v27 (F := Ideal) x0 x1 x2 x3 x4 x7 x8 (ix2 t 0) = (rt x0 x1 x2 x3 x4 x10 t).rs (wt x7 x8 x9) := by
  pointwise [val_main_v27, var_at x0 x1 x2 x3 x4 x7 x8 x9 x10, Row.rs]

theorem q_at (t : Fin 2112) :
    val_main_v30 (F := Ideal) x0 x1 x2 x3 x4 x7 x8 (ix2 t 0) = (rt x0 x1 x2 x3 x4 x10 t).q (wt x7 x8 x9) := by
  pointwise [val_main_v30, val_main_v29, val_main_v28, val_main_cst_6, var_at x0 x1 x2 x3 x4 x7 x8 x9 x10, r_at x0 x1 x2 x3 x4 x7 x8 x9 x10, Row.q]

theorem gP_at (e : Fin 1024) :
    val_main_v79 (F := Ideal) x0 x1 x2 x3 x4 x7 x8 x10 (ix2 0 e) = ∑ t : Fin 2112, (rt x0 x1 x2 x3 x4 x10 t).gP (wt x7 x8 x9) e := by
  pointwise [val_main_v79, val_main_v43, val_main_v40, val_main_v39, val_main_v38, val_main_v37, val_main_v32, val_main_v31, val_main_cst_7, val_main_cst_8, z_at x0 x1 x2 x3 x4 x7 x8 x9 x10, r_at x0 x1 x2 x3 x4 x7 x8 x9 x10, Row.gP]
  simp only [Fin.sum_univ_one]

theorem cw_at (t : Fin 2112) (e : Fin 1024) :
    val_main_v42 (F := Ideal) x9 x10 (ix2 t e) = (rt x0 x1 x2 x3 x4 x10 t).cw (wt x7 x8 x9) e := by
  pointwise [val_main_v42, val_main_v41, val_main_v37, val_main_v33, val_main_v34, Row.cw]

theorem ds_at (t : Fin 2112) :
    val_main_v52 (F := Ideal) x0 x1 x2 x3 x4 x7 x8 x9 x10 (ix1 t) = (rt x0 x1 x2 x3 x4 x10 t).ds (wt x7 x8 x9) := by
  pointwise [val_main_v52, val_main_v51, val_main_v50, val_main_v49, val_main_v46, val_main_v45, val_main_v44, val_main_cst_9, val_main_cst_10, val_main_cst_11, z_at x0 x1 x2 x3 x4 x7 x8 x9 x10, cw_at x0 x1 x2 x3 x4 x7 x8 x9 x10, Row.ds]
  have hq : ∀ x : Fin 1, val_main_v30 (F := Ideal) x0 x1 x2 x3 x4 x7 x8 (ix2 t x) = (rt x0 x1 x2 x3 x4 x10 t).q (wt x7 x8 x9) :=
    fun x => by rw [Subsingleton.elim x 0]; exact q_at x0 x1 x2 x3 x4 x7 x8 x9 x10 t
  simp only [hq, Fin.sum_univ_one]

theorem dz_at (t : Fin 2112) (e : Fin 1024) :
    val_main_v57 (F := Ideal) x0 x1 x2 x3 x4 x7 x8 x9 x10 (ix2 t e) = (rt x0 x1 x2 x3 x4 x10 t).dz (wt x7 x8 x9) e := by
  pointwise [val_main_v57, val_main_v56, val_main_v55, val_main_v54, val_main_v53, val_main_v48, val_main_v47, ds_at x0 x1 x2 x3 x4 x7 x8 x9 x10, z_at x0 x1 x2 x3 x4 x7 x8 x9 x10, r_at x0 x1 x2 x3 x4 x7 x8 x9 x10, cw_at x0 x1 x2 x3 x4 x7 x8 x9 x10, Row.dz]

theorem gO_at (d e : Fin 1024) :
    val_main_v59 (F := Ideal) x0 x1 x2 x3 x4 x7 x8 x9 x10 (ix2 d e) = ∑ t : Fin 2112, (rt x0 x1 x2 x3 x4 x10 t).gO (wt x7 x8 x9) d e := by
  pointwise [val_main_v59, val_main_v58, dz_at x0 x1 x2 x3 x4 x7 x8 x9 x10, mix_at x0 x1 x2 x3 x4 x7 x8 x9 x10, Row.gO]

theorem dm_at (t : Fin 2112) (d : Fin 1024) :
    val_main_v60 (F := Ideal) x0 x1 x2 x3 x4 x7 x8 x9 x10 (ix2 t d) = (rt x0 x1 x2 x3 x4 x10 t).dm (wt x7 x8 x9) d := by
  pointwise [val_main_v60, dz_at x0 x1 x2 x3 x4 x7 x8 x9 x10, Row.dm]

theorem dp_at (t : Fin 2112) (n : Fin 4) (d : Fin 1024) :
    val_main_v62 (F := Ideal) x0 x1 x2 x3 x4 x7 x8 x9 x10 (ix3 t n d) = (rt x0 x1 x2 x3 x4 x10 t).dp (wt x7 x8 x9) n d := by
  pointwise [val_main_v62, val_main_v61, dm_at x0 x1 x2 x3 x4 x7 x8 x9 x10, s_at x0 x1 x2 x3 x4 x10, Row.dp]

theorem dgn_at (t : Fin 2112) (n : Fin 4) (d : Fin 1024) :
    val_main_v64 (F := Ideal) x0 x1 x2 x3 x4 x7 x8 x9 x10 (ix3 t n d) = (rt x0 x1 x2 x3 x4 x10 t).dg (wt x7 x8 x9) n d := by
  pointwise [val_main_v64, val_main_v63, val_main_v61, dm_at x0 x1 x2 x3 x4 x7 x8 x9 x10, pb_at x0 x1 x2 x3 x4 x7 x8 x9 x10, s1_at x0 x1 x2 x3 x4 x10, Row.dg]

theorem dyn_at (t : Fin 2112) (n : Fin 4) (k : Fin 512) :
    val_main_v68 (F := Ideal) x0 x1 x2 x3 x4 x7 x8 x9 x10 (ix3 t n k) = (rt x0 x1 x2 x3 x4 x10 t).dy (wt x7 x8 x9) n k := by
  pointwise [val_main_v68, val_main_v67, val_main_v66, dp_at x0 x1 x2 x3 x4 x7 x8 x9 x10, Row.dy]

theorem gW_at (n : Fin 4) (k : Fin 512) (d : Fin 1024) :
    val_main_v70 (F := Ideal) x0 x1 x2 x3 x4 x7 x8 x9 x10 (ix3 n k d) = ∑ t : Fin 2112, (rt x0 x1 x2 x3 x4 x10 t).gW (wt x7 x8 x9) n k d := by
  pointwise [val_main_v70, val_main_v69, val_main_v66, dp_at x0 x1 x2 x3 x4 x7 x8 x9 x10, y_at x0 x1 x2 x3 x4 x10, Row.gW]

theorem dy_0 (t : Fin 2112) (k : Fin 512) :
    val_main_v72 (F := Ideal) x0 x1 x2 x3 x4 x7 x8 x9 x10 (ix2 t k) = (rt x0 x1 x2 x3 x4 x10 t).dy (wt x7 x8 x9) 0 k := by
  pointwise [val_main_v72, val_main_v71, dyn_at x0 x1 x2 x3 x4 x7 x8 x9 x10]

theorem dy_1 (t : Fin 2112) (k : Fin 512) :
    val_main_v74 (F := Ideal) x0 x1 x2 x3 x4 x7 x8 x9 x10 (ix2 t k) = (rt x0 x1 x2 x3 x4 x10 t).dy (wt x7 x8 x9) 1 k := by
  pointwise [val_main_v74, val_main_v73, dyn_at x0 x1 x2 x3 x4 x7 x8 x9 x10]

theorem dy_2 (t : Fin 2112) (k : Fin 512) :
    val_main_v76 (F := Ideal) x0 x1 x2 x3 x4 x7 x8 x9 x10 (ix2 t k) = (rt x0 x1 x2 x3 x4 x10 t).dy (wt x7 x8 x9) 2 k := by
  pointwise [val_main_v76, val_main_v75, dyn_at x0 x1 x2 x3 x4 x7 x8 x9 x10]

theorem dy_3 (t : Fin 2112) (k : Fin 512) :
    val_main_v78 (F := Ideal) x0 x1 x2 x3 x4 x7 x8 x9 x10 (ix2 t k) = (rt x0 x1 x2 x3 x4 x10 t).dy (wt x7 x8 x9) 3 k := by
  pointwise [val_main_v78, val_main_v77, dyn_at x0 x1 x2 x3 x4 x7 x8 x9 x10]

theorem dg_at (t : Fin 2112) (n : Fin 4) (d : Fin 1024) :
    val_main_v65 (F := Ideal) x0 x1 x2 x3 x4 x7 x8 x9 x10 (ix2 t (gatePos n d)) = (rt x0 x1 x2 x3 x4 x10 t).dg (wt x7 x8 x9) n d := by
  refine Eq.trans ?_ (dgn_at x0 x1 x2 x3 x4 x7 x8 x9 x10 t n d)
  pointwise [val_main_v65]
  exact congrArg₂ (fun a b => val_main_v64 (F := Ideal) x0 x1 x2 x3 x4 x7 x8 x9 x10 (ix3 t a b))
    (Fin.ext (show (1024 * n.val + d.val) / 1024 = n.val by omega))
    (Fin.ext (show (1024 * n.val + d.val) % 1024 = d.val by omega))

end Cert.Merge.Ref

end
-- ==== Proof.MergeValue.lean ====
/-
  The kernel's arrays after the run, at the ideal values: point `t` works on row block `10 − t`, so the outputs, tiled by the
  points' blocks, and the sums over the points are the reference's values. The two programs' results are equal.
-/
module

public import proofs.«01_k».proof.Proof.MergeRun
public import proofs.«01_k».proof.Proof.MergeBlock
public import proofs.«01_k».proof.Proof.MergeRef
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge.Value

open Cert.KernelIdeal Cert.KernelIdeal.Gen Cert.Merge Cert.Merge.Run Cert.Merge.Block

variable (m : (ℓ : Loc nD τ sig) → Buf (Elt Ideal) ℓ) (c : Dev nD)

/-- The arguments the gradients read, as launched. -/
abbrev a0 : (⟨S2112x512, .f32⟩ : BufTy).Contents (Elt Ideal) := m ((c : Thread nD τ).loc main_arg0)
abbrev a1 : (⟨S2112x512, .f32⟩ : BufTy).Contents (Elt Ideal) := m ((c : Thread nD τ).loc main_arg1)
abbrev a2 : (⟨S2112x512, .f32⟩ : BufTy).Contents (Elt Ideal) := m ((c : Thread nD τ).loc main_arg2)
abbrev a3 : (⟨S2112x512, .f32⟩ : BufTy).Contents (Elt Ideal) := m ((c : Thread nD τ).loc main_arg3)
abbrev a4 : (⟨S2112x4096, .f32⟩ : BufTy).Contents (Elt Ideal) := m ((c : Thread nD τ).loc main_arg4)
abbrev a7 : (⟨S4x512x1024, .f32⟩ : BufTy).Contents (Elt Ideal) := m ((c : Thread nD τ).loc main_arg7)
abbrev a8 : (⟨S1024x1024, .f32⟩ : BufTy).Contents (Elt Ideal) := m ((c : Thread nD τ).loc main_arg8)
abbrev a9 : (⟨S1024, .f32⟩ : BufTy).Contents (Elt Ideal) := m ((c : Thread nD τ).loc main_arg9)
abbrev a10 : (⟨S2112x1024, .f32⟩ : BufTy).Contents (Elt Ideal) := m ((c : Thread nD τ).loc main_arg10)

/-- The blocks the windows read and write at point `t`. -/
theorem idx : ∀ t : Fin cfg0.N, win0_0.index t = ![10 - t.val, 0] ∧ win0_1.index t = ![10 - t.val, 0]
    ∧ win0_2.index t = ![10 - t.val, 0] ∧ win0_3.index t = ![10 - t.val, 0] ∧ win0_4.index t = ![10 - t.val, 0]
    ∧ win0_6.index t = ![10 - t.val, 0] ∧ win0_7.index t = ![10 - t.val, 0] ∧ win0_8.index t = ![10 - t.val, 0]
    ∧ win0_9.index t = ![10 - t.val, 0] ∧ win0_10.index t = ![10 - t.val, 0] ∧ win0_11.index t = ![10 - t.val, 0]
    ∧ win0_12.index t = ![10 - t.val, 0] :=
  (by decide +kernel : ∀ t : Fin grid0.N, _)

theorem point_lt (t : Fin cfg0.N) : t.val < 11 := by
  have hC : cfg0.N = 11 := N_0
  omega

/-- Row `i` of the block of point `t`. -/
def row (t : Fin cfg0.N) (i : Fin 192) : Fin 2112 :=
  ⟨(10 - t.val) * 192 + i.val, by have := point_lt t; omega⟩

theorem b0_at (t : Fin cfg0.N) (i : Fin 192) (k : Fin 512) : b0 m c t (ix2 i k) = a0 m c (ix2 (row t i) k) := by
  unfold b0 a0 row
  blk_ext [iblk, V, idx t]
theorem b1_at (t : Fin cfg0.N) (i : Fin 192) (k : Fin 512) : b1 m c t (ix2 i k) = a1 m c (ix2 (row t i) k) := by
  unfold b1 a1 row
  blk_ext [iblk, V, idx t]
theorem b2_at (t : Fin cfg0.N) (i : Fin 192) (k : Fin 512) : b2 m c t (ix2 i k) = a2 m c (ix2 (row t i) k) := by
  unfold b2 a2 row
  blk_ext [iblk, V, idx t]
theorem b3_at (t : Fin cfg0.N) (i : Fin 192) (k : Fin 512) : b3 m c t (ix2 i k) = a3 m c (ix2 (row t i) k) := by
  unfold b3 a3 row
  blk_ext [iblk, V, idx t]
theorem b6_at (t : Fin cfg0.N) (i : Fin 192) (k : Fin 1024) : b6 m c t (ix2 i k) = a10 m c (ix2 (row t i) k) := by
  unfold b6 a10 row
  blk_ext [iblk, V, idx t]

/-- The gates' block lies whole in the array of gates and rest, left of the rest. -/
theorem b4_at (t : Fin cfg0.N) (i : Fin 192) (k : Fin 4096) : b4 m c t (ix2 i k) = a4 m c (ix2 (row t i) k) := by
  unfold b4 a4 row X0_4 Pipeline.Window.fill
  rw [dif_pos (moved0_4 t _)]
  blk_simp [iblk, idx t]
  entry_read
  pointwise
  split_ifs with h
  · blk_ext [idx t]
  · exact absurd (by blk_simp [idx t]; exact k.isLt) h
  · rename_i h'
    exact absurd rfl h'

theorem W0_at (n : Fin 4) (k : Fin 512) (d : Fin 1024) : W0 m c (ix3 n k d) = a7 m c (ix3 n k d) := by
  unfold W0 a7
  entry_read
  pointwise
theorem W1_at (d e : Fin 1024) : W1 m c (ix2 d e) = a8 m c (ix2 d e) := by
  unfold W1 a8
  entry_read
  pointwise
theorem W2_at (e : Fin 1024) : W2 m c (ix2 0 e) = a9 m c (ix1 e) := by
  unfold W2 a9
  entry_read
  pointwise

/-- Row `i` of point `t`'s blocks is the arguments' row. -/
theorem br_eq (t : Fin cfg0.N) (i : Fin 192) :
    br (b0 m c t) (b1 m c t) (b2 m c t) (b3 m c t) (b4 m c t) (b6 m c t) i
      = Ref.rt (a0 m c) (a1 m c) (a2 m c) (a3 m c) (a4 m c) (a10 m c) (row t i) := by
  refine Row.ext (funext fun n => funext fun k => ?_) (funext fun n => funext fun d => b4_at m c t i _) (funext fun e => b6_at m c t i e)
  fin_cases n
  · exact b0_at m c t i k
  · exact b1_at m c t i k
  · exact b2_at m c t i k
  · exact b3_at m c t i k

/-- The weights the host hands over are the arguments. -/
theorem bw_eq : bw (W0 m c) (W1 m c) (W2 m c) = Ref.wt (a7 m c) (a8 m c) (a9 m c) :=
  Wts.ext (funext fun n => funext fun k => funext fun d => W0_at m c n k d)
    (funext fun d => funext fun e => W1_at m c d e) (funext fun e => W2_at m c e)

/-- The rows of the points' blocks are the rows, once each. -/
theorem sum_rows (f : Fin 2112 → EReal) : ∑ t : Fin cfg0.N, ∑ i : Fin 192, f (row t i) = ∑ r : Fin 2112, f r := by
  have hC : cfg0.N = 11 := N_0
  rw [← Fintype.sum_prod_type']
  refine Fintype.sum_bijective (fun p : Fin cfg0.N × Fin 192 => row p.1 p.2) ⟨?_, ?_⟩ _ _ fun _ => rfl
  · rintro ⟨t, i⟩ ⟨t', i'⟩ h
    have h' := congrArg Fin.val h
    simp only [row] at h'
    have := point_lt t
    have := point_lt t'
    exact Prod.ext (Fin.ext (by show t.val = t'.val; omega)) (Fin.ext (by show i.val = i'.val; omega))
  · intro r
    refine ⟨(⟨10 - r.val / 192, by omega⟩, ⟨r.val % 192, by omega⟩), Fin.ext ?_⟩
    show (10 - (10 - r.val / 192)) * 192 + r.val % 192 = r.val
    omega

/-- A sum kept point by point is the sum over the points. -/
theorem sum_points {N : ℕ} (s : ℕ → EReal) (p : Fin N → EReal) (h0 : s 0 = 0) (hs : ∀ t : Fin N, s (t.val + 1) = s t.val + p t) :
    s N = ∑ t, p t := by
  have h : ∀ (n : ℕ) (hn : n ≤ N), s n = ∑ t : Fin n, p (Fin.castLE hn t) := by
    intro n
    induction n with
    | zero => intro _; simpa using h0
    | succ n ih =>
      intro hn
      rw [Fin.sum_univ_castSucc, hs ⟨n, hn⟩, ih (by omega)]
      rfl
  exact h N le_rfl

/-! ## The outputs -/

theorem rowPos {n : ℕ} (t : Fin cfg0.N) (j : (⟨2, ![2112, n]⟩ : Shape).Idx) (i : Fin 192) (k : Fin n)
    (h0 : (j 0).val = (10 - t.val) * 192 + i.val) (h1 : (j 1).val = k.val) : j = ix2 (row t i) k := by
  funext a
  fin_cases a
  · exact Fin.ext h0
  · exact Fin.ext h1
theorem eq_ix2 {a b : ℕ} (y : (⟨2, ![a, b]⟩ : Shape).Idx) : y = ix2 (y 0) (y 1) := by
  funext k
  fin_cases k <;> rfl

theorem y7_at (t : Fin cfg0.N) (i : Fin 192) (k : Fin 512) : y7 m c t (ix2 i k)
    = Cert.ReferenceIdeal.Read.val_main_v72 (F := Ideal) (a0 m c) (a1 m c) (a2 m c) (a3 m c) (a4 m c) (a7 m c) (a8 m c) (a9 m c) (a10 m c)
        (ix2 (row t i) k) := by
  refine (Block.dy_0 _ _ _ _ _ _ _ _ _ i k).trans (Eq.trans ?_ (Ref.dy_0 _ _ _ _ _ _ _ _ _ (row t i) k).symm)
  rw [br_eq, bw_eq]
theorem y8_at (t : Fin cfg0.N) (i : Fin 192) (k : Fin 512) : y8 m c t (ix2 i k)
    = Cert.ReferenceIdeal.Read.val_main_v74 (F := Ideal) (a0 m c) (a1 m c) (a2 m c) (a3 m c) (a4 m c) (a7 m c) (a8 m c) (a9 m c) (a10 m c)
        (ix2 (row t i) k) := by
  refine (Block.dy_1 _ _ _ _ _ _ _ _ _ i k).trans (Eq.trans ?_ (Ref.dy_1 _ _ _ _ _ _ _ _ _ (row t i) k).symm)
  rw [br_eq, bw_eq]
theorem y9_at (t : Fin cfg0.N) (i : Fin 192) (k : Fin 512) : y9 m c t (ix2 i k)
    = Cert.ReferenceIdeal.Read.val_main_v76 (F := Ideal) (a0 m c) (a1 m c) (a2 m c) (a3 m c) (a4 m c) (a7 m c) (a8 m c) (a9 m c) (a10 m c)
        (ix2 (row t i) k) := by
  refine (Block.dy_2 _ _ _ _ _ _ _ _ _ i k).trans (Eq.trans ?_ (Ref.dy_2 _ _ _ _ _ _ _ _ _ (row t i) k).symm)
  rw [br_eq, bw_eq]
theorem y10_at (t : Fin cfg0.N) (i : Fin 192) (k : Fin 512) : y10 m c t (ix2 i k)
    = Cert.ReferenceIdeal.Read.val_main_v78 (F := Ideal) (a0 m c) (a1 m c) (a2 m c) (a3 m c) (a4 m c) (a7 m c) (a8 m c) (a9 m c) (a10 m c)
        (ix2 (row t i) k) := by
  refine (Block.dy_3 _ _ _ _ _ _ _ _ _ i k).trans (Eq.trans ?_ (Ref.dy_3 _ _ _ _ _ _ _ _ _ (row t i) k).symm)
  rw [br_eq, bw_eq]
theorem y11_at (t : Fin cfg0.N) (i : Fin 192) (n : Fin 4) (d : Fin 1024) : y11 m c t (ix2 i (gatePos n d))
    = Cert.ReferenceIdeal.Read.val_main_v65 (F := Ideal) (a0 m c) (a1 m c) (a2 m c) (a3 m c) (a4 m c) (a7 m c) (a8 m c) (a9 m c) (a10 m c)
        (ix2 (row t i) (gatePos n d)) := by
  refine (Block.dg_at _ _ _ _ _ _ _ _ _ i n d).trans (Eq.trans ?_ (Ref.dg_at _ _ _ _ _ _ _ _ _ (row t i) n d).symm)
  rw [br_eq, bw_eq]
theorem eq_ix3 {a b d : ℕ} (y : (⟨3, ![a, b, d]⟩ : Shape).Idx) : y = ix3 (y 0) (y 1) (y 2) := by
  funext k
  fin_cases k <;> rfl
theorem pay1_at (v : FVec Ideal S4x512x1024 .bf16) (s : Vec Ideal S4x512x1024 .f32) (n : Fin 4) (k : Fin 512) (d : Fin 1024) :
    k0_pay1 (F := Ideal) v s (ix3 n k d) = s (ix3 n k d) + v (ix3 n k d) := by
  pointwise [k0_pay1]
theorem pay2_at (v : FVec Ideal S1024x1024 .bf16) (s : Vec Ideal S1024x1024 .f32) (d e : Fin 1024) :
    k0_pay2 (F := Ideal) v s (ix2 d e) = s (ix2 d e) + v (ix2 d e) := by
  pointwise [k0_pay2]
theorem pay3_at (v : FVec Ideal S1x1024 .f32) (s : Vec Ideal S1x1024 .f32) (e : Fin 1024) :
    k0_pay3 (F := Ideal) v s (ix2 0 e) = s (ix2 0 e) + v (ix2 0 e) := by
  pointwise [k0_pay3]
theorem arr_7 : (dats m 0 c).arrAt 7 cfg0.N
    = Cert.ReferenceIdeal.Read.val_main_v72 (F := Ideal) (a0 m c) (a1 m c) (a2 m c) (a3 m c) (a4 m c) (a7 m c) (a8 m c) (a9 m c) (a10 m c) := by
  refine (dats m 0 c).arrAt_eq_of_covers 7 _ (by decide +kernel) fun t hf y => ?_
  blk_simp
  rw [after_7]
  refine (congrArg (y7 m c t) (eq_ix2 y)).trans ((y7_at m c t (y 0) (y 1)).trans (congrArg _ ?_))
  exact (rowPos t ((win0_7.blk t).view.emb y) _ _ (by blk_simp [idx t]) (by blk_simp [idx t])).symm
theorem arr_8 : (dats m 0 c).arrAt 8 cfg0.N
    = Cert.ReferenceIdeal.Read.val_main_v74 (F := Ideal) (a0 m c) (a1 m c) (a2 m c) (a3 m c) (a4 m c) (a7 m c) (a8 m c) (a9 m c) (a10 m c) := by
  refine (dats m 0 c).arrAt_eq_of_covers 8 _ (by decide +kernel) fun t hf y => ?_
  blk_simp
  rw [after_8]
  refine (congrArg (y8 m c t) (eq_ix2 y)).trans ((y8_at m c t (y 0) (y 1)).trans (congrArg _ ?_))
  exact (rowPos t ((win0_8.blk t).view.emb y) _ _ (by blk_simp [idx t]) (by blk_simp [idx t])).symm
theorem arr_9 : (dats m 0 c).arrAt 9 cfg0.N
    = Cert.ReferenceIdeal.Read.val_main_v76 (F := Ideal) (a0 m c) (a1 m c) (a2 m c) (a3 m c) (a4 m c) (a7 m c) (a8 m c) (a9 m c) (a10 m c) := by
  refine (dats m 0 c).arrAt_eq_of_covers 9 _ (by decide +kernel) fun t hf y => ?_
  blk_simp
  rw [after_9]
  refine (congrArg (y9 m c t) (eq_ix2 y)).trans ((y9_at m c t (y 0) (y 1)).trans (congrArg _ ?_))
  exact (rowPos t ((win0_9.blk t).view.emb y) _ _ (by blk_simp [idx t]) (by blk_simp [idx t])).symm
theorem arr_10 : (dats m 0 c).arrAt 10 cfg0.N
    = Cert.ReferenceIdeal.Read.val_main_v78 (F := Ideal) (a0 m c) (a1 m c) (a2 m c) (a3 m c) (a4 m c) (a7 m c) (a8 m c) (a9 m c) (a10 m c) := by
  refine (dats m 0 c).arrAt_eq_of_covers 10 _ (by decide +kernel) fun t hf y => ?_
  blk_simp
  rw [after_10]
  refine (congrArg (y10 m c t) (eq_ix2 y)).trans ((y10_at m c t (y 0) (y 1)).trans (congrArg _ ?_))
  exact (rowPos t ((win0_10.blk t).view.emb y) _ _ (by blk_simp [idx t]) (by blk_simp [idx t])).symm
theorem gatePos_eq (k : Fin 4096) : k = gatePos ⟨k.val / 1024, by omega⟩ ⟨k.val % 1024, by omega⟩ :=
  Fin.ext (by show k.val = 1024 * (k.val / 1024) + k.val % 1024; omega)
theorem arr_11 : (dats m 0 c).arrAt 11 cfg0.N
    = Cert.ReferenceIdeal.Read.val_main_v65 (F := Ideal) (a0 m c) (a1 m c) (a2 m c) (a3 m c) (a4 m c) (a7 m c) (a8 m c) (a9 m c) (a10 m c) := by
  refine (dats m 0 c).arrAt_eq_of_covers 11 _ (by decide +kernel) fun t hf y => ?_
  blk_simp
  rw [after_11]
  refine (congrArg (y11 m c t) ((eq_ix2 y).trans (congrArg (ix2 (y 0)) (gatePos_eq (y 1))))).trans
    ((y11_at m c t (y 0) _ _).trans (congrArg _ ?_))
  exact (rowPos t ((win0_11.blk t).view.emb y) _ _ (by blk_simp [idx t]) ((by blk_simp [idx t] : _ = (y 1).val).trans (congrArg Fin.val (gatePos_eq (y 1))))).symm
theorem arr_12 : (dats m 0 c).arrAt 12 cfg0.N = a10 m c := by
  refine (dats m 0 c).arrAt_eq_of_covers 12 _ (by decide +kernel) fun t hf y => ?_
  blk_simp
  rw [after_12]
  refine (congrArg (y12 m c t) (eq_ix2 y)).trans ((b6_at m c t (y 0) (y 1)).trans (congrArg _ ?_))
  exact (rowPos t ((win0_12.blk t).view.emb y) _ _ (by blk_simp [idx t]) (by blk_simp [idx t])).symm

/-! ## The sums -/

theorem G_3_eq : G m c main_v4_6
    = Cert.ReferenceIdeal.Read.val_main_v70 (F := Ideal) (a0 m c) (a1 m c) (a2 m c) (a3 m c) (a4 m c) (a7 m c) (a8 m c) (a9 m c) (a10 m c) := by
  rw [G_3]
  funext j
  refine (congrArg (sum3 m c cfg0.N) (eq_ix3 j)).trans (Eq.trans ?_ (congrArg _ (eq_ix3 j)).symm)
  refine (sum_points (fun n => sum3 m c n (ix3 (j 0) (j 1) (j 2))) (fun t => ∑ i : Fin 192, (Ref.rt (a0 m c) (a1 m c) (a2 m c) (a3 m c) (a4 m c) (a10 m c) (row t i)).gW
      (Ref.wt (a7 m c) (a8 m c) (a9 m c)) (j 0) (j 1) (j 2)) ?_ fun t => ?_).trans
    ((sum_rows fun r => (Ref.rt (a0 m c) (a1 m c) (a2 m c) (a3 m c) (a4 m c) (a10 m c) r).gW (Ref.wt (a7 m c) (a8 m c) (a9 m c)) (j 0) (j 1) (j 2)).trans
      (Ref.gW_at _ _ _ _ _ _ _ _ _ _ _ _).symm)
  · pointwise [sum3, k0_pay4]
  · refine (congrFun (sum3_step m c t) _).trans ?_
    unfold step3 Point.add3
    refine (pay1_at _ _ _ _ _).trans (congrArg (sum3 m c t.val (ix3 (j 0) (j 1) (j 2)) + ·) ?_)
    refine (Block.gW_at _ _ _ _ _ _ _ _ _ _ _ _).trans ?_
    simp only [br_eq, bw_eq]
theorem G_4_eq : G m c main_v4_7
    = Cert.ReferenceIdeal.Read.val_main_v59 (F := Ideal) (a0 m c) (a1 m c) (a2 m c) (a3 m c) (a4 m c) (a7 m c) (a8 m c) (a9 m c) (a10 m c) := by
  rw [G_4]
  funext j
  refine (congrArg (sum4 m c cfg0.N) (eq_ix2 j)).trans (Eq.trans ?_ (congrArg _ (eq_ix2 j)).symm)
  refine (sum_points (fun n => sum4 m c n (ix2 (j 0) (j 1))) (fun t => ∑ i : Fin 192, (Ref.rt (a0 m c) (a1 m c) (a2 m c) (a3 m c) (a4 m c) (a10 m c) (row t i)).gO
      (Ref.wt (a7 m c) (a8 m c) (a9 m c)) (j 0) (j 1)) ?_ fun t => ?_).trans
    ((sum_rows fun r => (Ref.rt (a0 m c) (a1 m c) (a2 m c) (a3 m c) (a4 m c) (a10 m c) r).gO (Ref.wt (a7 m c) (a8 m c) (a9 m c)) (j 0) (j 1)).trans
      (Ref.gO_at _ _ _ _ _ _ _ _ _ _ _).symm)
  · pointwise [sum4, k0_pay5]
  · refine (congrFun (sum4_step m c t) _).trans ?_
    unfold step4 Point.add4
    refine (pay2_at _ _ _ _).trans (congrArg (sum4 m c t.val (ix2 (j 0) (j 1)) + ·) ?_)
    refine (Block.gO_at _ _ _ _ _ _ _ _ _ _ _).trans ?_
    simp only [br_eq, bw_eq]
theorem G_5_eq : G m c main_v4_8
    = Cert.ReferenceIdeal.Read.val_main_v79 (F := Ideal) (a0 m c) (a1 m c) (a2 m c) (a3 m c) (a4 m c) (a7 m c) (a8 m c) (a10 m c) := by
  rw [G_5]
  funext j
  have hj : j = ix2 0 (j 1) := (eq_ix2 j).trans (congrArg (ix2 · (j 1)) (Subsingleton.elim (α := Fin 1) _ _))
  refine (congrArg (sum5 m c cfg0.N) hj).trans (Eq.trans ?_ (congrArg _ hj).symm)
  refine (sum_points (fun n => sum5 m c n (ix2 0 (j 1))) (fun t => ∑ i : Fin 192, (Ref.rt (a0 m c) (a1 m c) (a2 m c) (a3 m c) (a4 m c) (a10 m c) (row t i)).gP
      (Ref.wt (a7 m c) (a8 m c) (a9 m c)) (j 1)) ?_ fun t => ?_).trans
    ((sum_rows fun r => (Ref.rt (a0 m c) (a1 m c) (a2 m c) (a3 m c) (a4 m c) (a10 m c) r).gP (Ref.wt (a7 m c) (a8 m c) (a9 m c)) (j 1)).trans
      (Ref.gP_at _ _ _ _ _ _ _ _ _ _).symm)
  · pointwise [sum5, k0_pay6]
  · refine (congrFun (sum5_step m c t) _).trans ?_
    unfold step5 Point.add5
    refine (pay3_at _ _ _).trans (congrArg (sum5 m c t.val (ix2 0 (j 1)) + ·) ?_)
    refine (Block.gP_at _ _ _ _ _ _ _ _ (W2 m c) _).trans ?_
    simp only [br_eq, bw_eq]

end Cert.Merge.Value

end
-- ==== Proof.InProjDw.lean ====
/-
  The gradient in the weights of the input projection: a block of columns of the result is the sum over the three blocks of
  rows that the points of one run multiply, hence the sum over all rows.
-/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

noncomputable section

open Idealize.ShloMosaic Idealize.ShloMosaic.TcCoe Idealize.SL.Sem
open Idealize.ShloMosaic.Pipeline (Dat)

namespace Cert.InProjDw

open Cert.Kernel2Ideal Cert.Kernel2Ideal.Gen

variable (m : (ℓ : Loc nD τ sig) → Buf (Elt Ideal) ℓ) (c : Dev nD)

/-- The activations and the cotangent, as launched. -/
abbrev u : (⟨S2112x1024, .f32⟩ : BufTy).Contents (Elt Ideal) := m ((c : Thread nD τ).loc main_arg0)
abbrev d : (⟨S2112x9856, .f32⟩ : BufTy).Contents (Elt Ideal) := m ((c : Thread nD τ).loc main_arg1)

theorem idx : ∀ t : Fin cfg0.N, win0_0.index t = ![t.val % 3, 0] ∧ win0_1.index t = ![t.val % 3, t.val / 3]
    ∧ win0_2.index t = ![0, t.val / 3] :=
  (by decide +kernel : ∀ t : Fin grid0.N, _)

/-- The product one point adds to an entry. -/
def part (a : Vec Ideal S704x1024 .bf16) (b : Vec Ideal S704x1408 .bf16) (j : S1024x1408.Idx) : EReal :=
  ∑ k : Fin 704, a (ix2 k (j 0)) * b (ix2 k (j 1))

theorem zero_at (j : S1024x1408.Idx) : k0_pay1 (F := Ideal) j = 0 := by
  pointwise [k0_pay1]

theorem add_at (acc : Vec Ideal S1024x1408 .f32) (a : Vec Ideal S704x1024 .bf16) (b : Vec Ideal S704x1408 .bf16) (j : S1024x1408.Idx) :
    k0_pay2 (F := Ideal) acc a b j = acc j + part a b j := by
  unfold part
  pointwise [k0_pay2]

/-- What the last point of a run stores is the sum it has kept. -/
theorem out_eq (t : Fin cfg0.N) (h : t.val % 3 = 2) : (outsAt0 m c t.val t.isLt).1 = (outsAt0 m c t.val t.isLt).2 := by
  rw [outsAt0_C m c t (by omega) h]
  frame_out

theorem sum_at (t : Fin cfg0.N) (h : t.val % 3 = 2) (j : S1024x1408.Idx) :
    (outsAt0 m c t.val t.isLt).1 j
      = ∑ s : Fin 3, part (iblk m c 0 ⟨3 * (t.val / 3) + s.val, Pipeline.run_point_lt_of_flush t h s⟩) (iblk m c 1 ⟨3 * (t.val / 3) + s.val, Pipeline.run_point_lt_of_flush t h s⟩) j := by
  rw [out_eq m c t h]
  rw [Pipeline.eq_sum_fin_of_reset_step_apply_of_flush (fun n h => (outsAt0 m c n h).2) 3 (fun _ => 0) _
      (fun t h j => by rw [outsAt0_A m c t h (by omega)]; frame_out; rw [add_at, zero_at])
      (fun t h j => by
        by_cases h' : t.val % 3 = 2
        · rw [outsAt0_C m c t h h']; frame_out; rw [add_at, read_unread_whole]
        · rw [outsAt0_B m c t h h']; frame_out; rw [add_at, read_unread_whole])
      t h j, zero_add]

theorem a_at (t : Fin cfg0.N) (k : Fin 704) (i : Fin 1024) (r : S2112x1024.Idx) (h0 : (r 0).val = t.val % 3 * 704 + k.val)
    (h1 : (r 1).val = i.val) : iblk m c 0 t (ix2 k i) = u m c r := by
  unfold u
  blk_simp [iblk, idx t]
  entry_read
  pointwise
  blk_ext [idx t, h0, h1]

theorem b_at (t : Fin cfg0.N) (k : Fin 704) (i : Fin 1408) (r : S2112x9856.Idx) (h0 : (r 0).val = t.val % 3 * 704 + k.val)
    (h1 : (r 1).val = t.val / 3 * 1408 + i.val) : iblk m c 1 t (ix2 k i) = d m c r := by
  unfold d
  blk_simp [iblk, idx t]
  entry_read
  pointwise
  blk_ext [idx t, h0, h1]

theorem pos_0 (t : Fin cfg0.N) (y : S1024x1408.Idx) : ((win0_2.blk t).view.emb y 0).val = (y 0).val := by
  blk_simp [idx t]
theorem pos_1 (t : Fin cfg0.N) (y : S1024x1408.Idx) : ((win0_2.blk t).view.emb y 1).val = t.val / 3 * 1408 + (y 1).val := by
  blk_simp [idx t]

/-- The kernel's result is the reference's. -/
theorem arr_eq : (dats m 0 c).arrAt 2 cfg0.N = Cert.Reference2Ideal.Read.val_main_v3 (F := Ideal) (u m c) (d m c) := by
  refine (dats m 0 c).arrAt_eq_of_covers 2 _ (by decide +kernel) fun t hf y => ?_
  have h := (flush0_2 t).mp hf
  blk_simp
  rw [after0_2]
  refine (sum_at m c t h _).trans ?_
  rw [Cert.Reference2Ideal.Read.val_main_v3_apply, Cert.Reference2Ideal.Read.val_main_v2_apply]
  unfold part
  refine Fin.sum_mul_add_congr fun s k hl => ?_
  rw [mul_comm]
  have hs := s.isLt
  refine congrArg₂ (· * ·) (b_at m c _ k _ _ ?_ ?_) (a_at m c _ k _ _ ?_ ?_)
  · show s.val * 704 + k.val = (3 * (t.val / 3) + s.val) % 3 * 704 + k.val
    omega
  · refine (pos_1 t y).trans ?_
    show t.val / 3 * 1408 + (y 1).val = (3 * (t.val / 3) + s.val) / 3 * 1408 + (y 1).val
    omega
  · show s.val * 704 + k.val = (3 * (t.val / 3) + s.val) % 3 * 704 + k.val
    omega
  · exact pos_0 t y

/-- The kernel's result after the run. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v2) = Cert.Reference2Ideal.Read.val_main_v3 (F := Ideal) (u m c) (d m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (arr_eq m c), (h c).2⟩) (Cert.Kernel2Ideal.Value.run_blocks m g)

theorem frame_kernel : Cert.quiescent_Kernel2 := fun m g _ => Cert.Kernel2.Gen.frame m g
theorem frame_ideal : Cert.quiescent_Kernel2Ideal := fun m g _ => Cert.Kernel2Ideal.Gen.frame m g

/-- The reference leaves its arguments as they were; it has no semaphores. -/
theorem frame_reference : Cert.quiescent_Reference2Ideal := fun m g _ =>
  (θ_run _ _ _).mono (fun _ h => ⟨fun c => (h c).2, sem_eq_zero_of_no_sems (by decide) _⟩) (Cert.Reference2Ideal.Value.run m g)

/-- Both programs leave the same result. -/
theorem algebraic : Cert.algebraic_Kernel2Ideal_Reference2Ideal := by
  intro m g m' g' _ hm
  refine ⟨fun c => Cert.Reference2Ideal.Read.val_main_v3 (F := Ideal) (u m c) (d m c), kernel_run m g, ?_⟩
  refine (θ_run _ _ _).mono (fun r h c => ⟨(h c).1.trans ?_, (h c).2⟩) (Cert.Reference2Ideal.Value.run m' g')
  obtain ⟨e0, e1⟩ := hm c
  exact (Cert.Reference2Ideal.Read.val_main_v3_eq _ _).trans (congrArg₂ (Cert.Reference2Ideal.Read.val_main_v3 (F := Ideal)) e0 e1)

end Cert.InProjDw

end
-- ==== Proof.InProjDx.lean ====
/-
  The gradient in the activations of the input projection: a block of rows of the result is the sum over the seven blocks of
  columns that the points of one run multiply, hence the sum over all columns.
-/
module

public import proofs.«01_k».proof.Defs
public import proofs.«01_k».proof.Proof.Gen.Kernel3.Frame
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

noncomputable section

open Idealize.ShloMosaic Idealize.ShloMosaic.TcCoe Idealize.SL.Sem
open Idealize.ShloMosaic.Pipeline (Dat)

namespace Cert.InProjDx

open Cert.Kernel3Ideal Cert.Kernel3Ideal.Gen

variable (m : (ℓ : Loc nD τ sig) → Buf (Elt Ideal) ℓ) (c : Dev nD)

/-- The cotangent and the weights, as launched. -/
abbrev d : (⟨S2112x9856, .f32⟩ : BufTy).Contents (Elt Ideal) := m ((c : Thread nD τ).loc main_arg0)
abbrev w : (⟨S1024x9856, .f32⟩ : BufTy).Contents (Elt Ideal) := m ((c : Thread nD τ).loc main_arg1)

theorem idx : ∀ t : Fin cfg0.N, win0_0.index t = ![t.val / 7, t.val % 7] ∧ win0_1.index t = ![0, t.val % 7]
    ∧ win0_2.index t = ![t.val / 7, 0] :=
  (by decide +kernel : ∀ t : Fin grid0.N, _)

/-- The product one point adds to an entry. -/
def part (a : Vec Ideal S1056x1408 .bf16) (b : Vec Ideal S1024x1408 .bf16) (j : S1056x1024.Idx) : EReal :=
  ∑ k : Fin 1408, a (ix2 (j 0) k) * b (ix2 (j 1) k)

theorem zero_at (j : S1056x1024.Idx) : k0_pay1 (F := Ideal) j = 0 := by
  pointwise [k0_pay1]

theorem add_at (acc : Vec Ideal S1056x1024 .f32) (a : Vec Ideal S1056x1408 .bf16) (b : Vec Ideal S1024x1408 .bf16) (j : S1056x1024.Idx) :
    k0_pay2 (F := Ideal) acc a b j = acc j + part a b j := by
  unfold part
  pointwise [k0_pay2]

/-- What the last point of a run stores is the sum it has kept. -/
theorem out_eq (t : Fin cfg0.N) (h : t.val % 7 = 6) : (outsAt0 m c t.val t.isLt).1 = (outsAt0 m c t.val t.isLt).2 := by
  rw [outsAt0_C m c t (by omega) h]
  frame_out

theorem sum_at (t : Fin cfg0.N) (h : t.val % 7 = 6) (j : S1056x1024.Idx) :
    (outsAt0 m c t.val t.isLt).1 j
      = ∑ s : Fin 7, part (iblk m c 0 ⟨7 * (t.val / 7) + s.val, Pipeline.run_point_lt_of_flush t h s⟩)
          (iblk m c 1 ⟨7 * (t.val / 7) + s.val, Pipeline.run_point_lt_of_flush t h s⟩) j := by
  rw [out_eq m c t h]
  rw [Pipeline.eq_sum_fin_of_reset_step_apply_of_flush (fun n h => (outsAt0 m c n h).2) 7 (fun _ => 0) _
      (fun t h j => by rw [outsAt0_A m c t h (by omega)]; frame_out; rw [add_at, zero_at])
      (fun t h j => by
        by_cases h' : t.val % 7 = 6
        · rw [outsAt0_C m c t h h']; frame_out; rw [add_at, read_unread_whole]
        · rw [outsAt0_B m c t h h']; frame_out; rw [add_at, read_unread_whole])
      t h j, zero_add]

theorem a_at (t : Fin cfg0.N) (i : Fin 1056) (k : Fin 1408) (r : S2112x9856.Idx) (h0 : (r 0).val = t.val / 7 * 1056 + i.val)
    (h1 : (r 1).val = t.val % 7 * 1408 + k.val) : iblk m c 0 t (ix2 i k) = d m c r := by
  unfold d
  blk_simp [iblk, idx t]
  entry_read
  pointwise
  blk_ext [idx t, h0, h1]

theorem b_at (t : Fin cfg0.N) (i : Fin 1024) (k : Fin 1408) (r : S1024x9856.Idx) (h0 : (r 0).val = i.val)
    (h1 : (r 1).val = t.val % 7 * 1408 + k.val) : iblk m c 1 t (ix2 i k) = w m c r := by
  unfold w
  blk_simp [iblk, idx t]
  entry_read
  pointwise
  blk_ext [idx t, h0, h1]

theorem pos_0 (t : Fin cfg0.N) (y : S1056x1024.Idx) : ((win0_2.blk t).view.emb y 0).val = t.val / 7 * 1056 + (y 0).val := by
  blk_simp [idx t]
theorem pos_1 (t : Fin cfg0.N) (y : S1056x1024.Idx) : ((win0_2.blk t).view.emb y 1).val = (y 1).val := by
  blk_simp [idx t]

/-- The kernel's result is the reference's. -/
theorem arr_eq : (dats m 0 c).arrAt 2 cfg0.N = Cert.Reference3Ideal.Read.val_main_v2 (F := Ideal) (d m c) (w m c) := by
  refine (dats m 0 c).arrAt_eq_of_covers 2 _ (by decide +kernel) fun t hf y => ?_
  have h := (flush0_2 t).mp hf
  blk_simp
  rw [after0_2]
  refine (sum_at m c t h _).trans ?_
  rw [Cert.Reference3Ideal.Read.val_main_v2_apply]
  unfold part
  refine Fin.sum_mul_add_congr fun s k hl => ?_
  have hs := s.isLt
  refine congrArg₂ (· * ·) (a_at m c _ _ k _ ?_ ?_) (b_at m c _ _ k _ ?_ ?_)
  · refine (pos_0 t y).trans ?_
    show t.val / 7 * 1056 + (y 0).val = (7 * (t.val / 7) + s.val) / 7 * 1056 + (y 0).val
    omega
  · show s.val * 1408 + k.val = (7 * (t.val / 7) + s.val) % 7 * 1408 + k.val
    omega
  · exact pos_1 t y
  · show s.val * 1408 + k.val = (7 * (t.val / 7) + s.val) % 7 * 1408 + k.val
    omega

/-- The kernel's result after the run. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v2) = Cert.Reference3Ideal.Read.val_main_v2 (F := Ideal) (d m c) (w m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (arr_eq m c), (h c).2⟩) (Cert.Kernel3Ideal.Value.run_blocks m g)

theorem frame_kernel : Cert.quiescent_Kernel3 := fun m g _ => Cert.Kernel3.Gen.frame m g
theorem frame_ideal : Cert.quiescent_Kernel3Ideal := fun m g _ => Cert.Kernel3Ideal.Gen.frame m g

/-- The reference leaves its arguments as they were; it has no semaphores. -/
theorem frame_reference : Cert.quiescent_Reference3Ideal := fun m g _ =>
  (θ_run _ _ _).mono (fun _ h => ⟨fun c => (h c).2, sem_eq_zero_of_no_sems (by decide) _⟩) (Cert.Reference3Ideal.Value.run m g)

/-- Both programs leave the same result. -/
theorem algebraic : Cert.algebraic_Kernel3Ideal_Reference3Ideal := by
  intro m g m' g' _ hm
  refine ⟨fun c => Cert.Reference3Ideal.Read.val_main_v2 (F := Ideal) (d m c) (w m c), kernel_run m g, ?_⟩
  refine (θ_run _ _ _).mono (fun r h c => ⟨(h c).1.trans ?_, (h c).2⟩) (Cert.Reference3Ideal.Value.run m' g')
  obtain ⟨e0, e1⟩ := hm c
  exact (Cert.Reference3Ideal.Read.val_main_v2_eq _ _).trans (congrArg₂ (Cert.Reference3Ideal.Read.val_main_v2 (F := Ideal)) e0 e1)

end Cert.InProjDx

end
-- ==== Proof.InProj.lean ====
/-
  The input projection: each point writes one block of the product, from the rows and the columns that meet in it.
-/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack
public import Idealize.ShloMosaic.Lib.Claim

@[expose] public section

noncomputable section

open Idealize.ShloMosaic Idealize.ShloMosaic.TcCoe Idealize.SL.Sem
open Idealize.ShloMosaic.Pipeline (Dat)

namespace Cert.InProj

open Cert.Kernel4Ideal Cert.Kernel4Ideal.Gen

variable (m : (ℓ : Loc nD τ sig) → Buf (Elt Ideal) ℓ) (c : Dev nD)

/-- The activations and the weights, as launched. -/
abbrev u : (⟨S2112x1024, .f32⟩ : BufTy).Contents (Elt Ideal) := m ((c : Thread nD τ).loc main_arg0)
abbrev w : (⟨S1024x9856, .f32⟩ : BufTy).Contents (Elt Ideal) := m ((c : Thread nD τ).loc main_arg1)

theorem idx : ∀ t : Fin cfg0.N, win0_0.index t = ![t.val / 7, 0] ∧ win0_1.index t = ![0, t.val % 7]
    ∧ win0_2.index t = ![t.val / 7, t.val % 7] :=
  (by decide +kernel : ∀ t : Fin grid0.N, _)

/-- The product of a block of rows and a block of columns. -/
def part (a : Vec Ideal S1056x1024 .bf16) (b : Vec Ideal S1024x1408 .bf16) (j : S1056x1408.Idx) : EReal :=
  ∑ k : Fin 1024, a (ix2 (j 0) k) * b (ix2 k (j 1))

theorem zero_at (j : S1056x1408.Idx) : k0_pay1 (F := Ideal) j = 0 := by
  pointwise [k0_pay1]

theorem add_at (acc : Vec Ideal S1056x1408 .f32) (a : Vec Ideal S1056x1024 .bf16) (b : Vec Ideal S1024x1408 .bf16) (j : S1056x1408.Idx) :
    k0_pay2 (F := Ideal) acc a b j = acc j + part a b j := by
  unfold part
  pointwise [k0_pay2]

theorem out_at (t : Fin cfg0.N) (j : S1056x1408.Idx) : outsAt0 m c t j = part (iblk m c 0 t) (iblk m c 1 t) j := by
  unfold outsAt0
  frame_out
  rw [add_at, zero_at, zero_add]

theorem a_at (t : Fin cfg0.N) (i : Fin 1056) (k : Fin 1024) (r : S2112x1024.Idx) (h0 : (r 0).val = t.val / 7 * 1056 + i.val)
    (h1 : (r 1).val = k.val) : iblk m c 0 t (ix2 i k) = u m c r := by
  unfold u
  blk_simp [iblk, idx t]
  entry_read
  pointwise
  blk_ext [idx t, h0, h1]

theorem b_at (t : Fin cfg0.N) (k : Fin 1024) (i : Fin 1408) (r : S1024x9856.Idx) (h0 : (r 0).val = k.val)
    (h1 : (r 1).val = t.val % 7 * 1408 + i.val) : iblk m c 1 t (ix2 k i) = w m c r := by
  unfold w
  blk_simp [iblk, idx t]
  entry_read
  pointwise
  blk_ext [idx t, h0, h1]

theorem pos_0 (t : Fin cfg0.N) (y : S1056x1408.Idx) : ((win0_2.blk t).view.emb y 0).val = t.val / 7 * 1056 + (y 0).val := by
  blk_simp [idx t]
theorem pos_1 (t : Fin cfg0.N) (y : S1056x1408.Idx) : ((win0_2.blk t).view.emb y 1).val = t.val % 7 * 1408 + (y 1).val := by
  blk_simp [idx t]

/-- The kernel's result is the reference's. -/
theorem arr_eq : (dats m 0 c).arrAt 2 cfg0.N = Cert.Reference4Ideal.Read.val_main_v0 (F := Ideal) (u m c) (w m c) := by
  refine (dats m 0 c).arrAt_eq_of_covers 2 _ (by decide +kernel) fun t hf y => ?_
  blk_simp
  rw [after0_2]
  refine (out_at m c t _).trans ?_
  rw [Cert.Reference4Ideal.Read.val_main_v0_apply]
  unfold part
  exact Finset.sum_congr rfl fun k _ => congrArg₂ (· * ·) (a_at m c t _ k _ (pos_0 t y) rfl) (b_at m c t k _ _ rfl (pos_1 t y))

/-- The kernel's result after the run. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v2) = Cert.Reference4Ideal.Read.val_main_v0 (F := Ideal) (u m c) (w m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (arr_eq m c), (h c).2⟩) (Cert.Kernel4Ideal.Value.run_blocks m g)

theorem frame_kernel : Cert.quiescent_Kernel4 := fun m g _ => Cert.Kernel4.Gen.frame m g
theorem frame_ideal : Cert.quiescent_Kernel4Ideal := fun m g _ => Cert.Kernel4Ideal.Gen.frame m g

/-- The reference leaves its arguments as they were; it has no semaphores. -/
theorem frame_reference : Cert.quiescent_Reference4Ideal := fun m g _ =>
  (θ_run _ _ _).mono (fun _ h => ⟨fun c => (h c).2, sem_eq_zero_of_no_sems (by decide) _⟩) (Cert.Reference4Ideal.Value.run m g)

/-- Both programs leave the same result. -/
theorem algebraic : Cert.algebraic_Kernel4Ideal_Reference4Ideal := by
  intro m g m' g' _ hm
  refine ⟨fun c => Cert.Reference4Ideal.Read.val_main_v0 (F := Ideal) (u m c) (w m c), kernel_run m g, ?_⟩
  refine (θ_run _ _ _).mono (fun r h c => ⟨(h c).1.trans ?_, (h c).2⟩) (Cert.Reference4Ideal.Value.run m' g')
  obtain ⟨e0, e1⟩ := hm c
  exact (Cert.Reference4Ideal.Read.val_main_v0_eq _ _).trans (congrArg₂ (Cert.Reference4Ideal.Read.val_main_v0 (F := Ideal)) e0 e1)

end Cert.InProj

end
-- ==== Proof.MlpFwdRun.lean ====
/-
  The forward pass of the multilayer perceptron, one grid point at a time: a point takes 512 of the 4096 hidden columns,
  and its counted loop leaves in each of four blocks of 528 rows the block's product (first point) or adds it (later points).
-/
module

public import proofs.«01_k».proof.Proof.Gen.Kernel5Ideal.Frame
public import proofs.«01_k».proof.Proof.Gen.Kernel5Ideal.Skeleton
public import Idealize.ShloMosaic.Lib.WritesUnit
public import Idealize.ShloMosaic.Lib.VecWindow
public import Idealize.ShloMosaic.Lib.Pointwise
public import Idealize.ShloMosaic.Lib.Pipeline.ValueKit
public import Idealize.ShloMosaic.Lib.Pipeline.ReadBack
public import Idealize.ShloMosaic.Lib.Claim

@[expose] public section

noncomputable section

namespace Cert.Kernel5Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- The `q`-th block of 528 rows. -/
def rowsOf {e : EltTy} (x : Vec F S2112x1024 e) (q : Fin 4) : Vec F S528x1024 e :=
  fun z => x (ix2 ⟨528 * q.val + (z 0).val, by have h : (z 0).val < 528 := (z 0).isLt; have := q.isLt; omega⟩ (z 1))

/-- What a trip stores: the block's product at the first point, the sum with what was there at the later ones. -/
def upd (i : grid0.Coords) (x0 : Vec F S2112x1024 .bf16) (x1 : Vec F S1024x512 .bf16) (x2 : Vec F S512x1024 .bf16)
    (old : Vec F S2112x1024 .f32) (q : Fin 4) : Vec F S528x1024 .f32 :=
  if k0_cond1 i = 1#1 then k0_pay1 (rowsOf x0 q) x1 x2 else k0_pay2 (rowsOf x0 q) x1 x2 (rowsOf old q)

/-- What all the trips leave. -/
def done (i : grid0.Coords) (x0 : Vec F S2112x1024 .bf16) (x1 : Vec F S1024x512 .bf16) (x2 : Vec F S512x1024 .bf16)
    (old : Vec F S2112x1024 .f32) : Vec F S2112x1024 .f32 :=
  fun y => upd i x0 x1 x2 old ⟨(y 0).val / 528, by have h : (y 0).val < 2112 := (y 0).isLt; omega⟩
    (ix2 ⟨(y 0).val % 528, Nat.mod_lt _ (by omega)⟩ (y 1))

/-- What the first `k` trips leave. -/
def upto (i : grid0.Coords) (x0 : Vec F S2112x1024 .bf16) (x1 : Vec F S1024x512 .bf16) (x2 : Vec F S512x1024 .bf16)
    (old : Vec F S2112x1024 .f32) (k : ℕ) : Vec F S2112x1024 .f32 :=
  fun y => if (y 0).val < 528 * k then done i x0 x1 x2 old y else old y

/-- A load of 528 rows reads a block of rows. -/
theorem readAt_rows {e : EltTy} (v : View sig .tc .vmem S2112x1024 e) (f : v.ty.Contents (Elt F)) {off : Fin 2 → ℕ} (q : Fin 4)
    (hoff : off = ![528 * q.val, 0]) (inb : ∀ a, off a + S528x1024.size a ≤ S2112x1024.size a) :
    v.readAt (Elt F) (Rect.unit (s := S2112x1024) off S528x1024.size inb).toLoadRect f = rowsOf (v.read (Elt F) f) q := by
  subst hoff
  funext z
  refine congrArg (v.read (Elt F) f) (funext fun a => Fin.ext ?_)
  match a with
  | ⟨0, _⟩ => show 528 * q.val + 1 * (z 0).val = 528 * q.val + (z 0).val; omega
  | ⟨1, _⟩ => show 0 + 1 * (z 1).val = (z 1).val; omega

/-- A trip's rows are not yet touched by the trips before it. -/
theorem rowsOf_upto (i : grid0.Coords) (x0 : Vec F S2112x1024 .bf16) (x1 : Vec F S1024x512 .bf16) (x2 : Vec F S512x1024 .bf16)
    (old : Vec F S2112x1024 .f32) (q : Fin 4) : rowsOf (upto i x0 x1 x2 old q.val) q = rowsOf old q := by
  funext z
  refine if_neg ?_
  show ¬528 * q.val + (z 0).val < 528 * q.val
  omega

/-- One trip's store takes what the first `k` trips leave to what the first `k + 1` leave. -/
theorem read_store (i : grid0.Coords) (x0 : Vec F S2112x1024 .bf16) (x1 : Vec F S1024x512 .bf16) (x2 : Vec F S512x1024 .bf16)
    (old : Vec F S2112x1024 .f32) (q : Fin 4) (v : View sig .tc .vmem S2112x1024 .f32) (f : v.ty.Contents (Elt F))
    (hf : v.read (Elt F) f = upto i x0 x1 x2 old q.val) {off : Fin 2 → ℕ} (hoff : off = ![528 * q.val, 0])
    (inb : ∀ a, off a + S528x1024.size a ≤ S2112x1024.size a) (w : Vec F S528x1024 .f32) (hw : w = upd i x0 x1 x2 old q) :
    v.read (Elt F) (v.writes (Elt F) f [⟨Rect.unit (s := S2112x1024) off S528x1024.size inb, w⟩]) = upto i x0 x1 x2 old (q.val + 1) := by
  funext y
  have hy : (y 0).val < 2112 := (y 0).isLt
  have hq := q.isLt
  by_cases h : 528 * q.val ≤ (y 0).val ∧ (y 0).val < 528 * q.val + 528
  · rw [View.read_writes_cons_rows_of_mem v f inb w [] y (ix2 ⟨(y 0).val % 528, Nat.mod_lt _ (by omega)⟩ (y 1)) hoff
      (by show (y 0).val = 528 * q.val + (y 0).val % 528; omega) rfl]
    unfold upto
    rw [if_pos (by omega), hw]
    unfold done
    rw [show (⟨(y 0).val / 528, by omega⟩ : Fin 4) = q from Fin.ext (by show (y 0).val / 528 = q.val; omega)]
  · rw [View.read_writes_cons_rows_of_not_mem (W := 528) v f inb w [] y hoff rfl (by omega)]
    refine (congrFun hf y).trans ?_
    unfold upto
    by_cases h' : (y 0).val < 528 * q.val
    · rw [if_pos h', if_pos (by omega)]
    · rw [if_neg h', if_neg (by omega)]

theorem trip_run (c : Dev nD) (E : Set ℕ) (i : grid0.Coords) (arg1 : Memref sig .tc .vmem S2112x1024 .bf16) (harg1 : arg1.IsWhole)
    (arg2 : Memref sig .tc .vmem S1024x512 .bf16) (harg2 : arg2.IsWhole) (arg3 : Memref sig .tc .vmem S512x1024 .bf16) (harg3 : arg3.IsWhole)
    (arg4 : Memref sig .tc .vmem S2112x1024 .f32) (harg4 : arg4.IsWhole) (hc : k0_cond1 i = 1#1 ↔ ¬k0_cond2 i = 1#1)
    (x0 : Vec F S2112x1024 .bf16) (x1 : Vec F S1024x512 .bf16) (x2 : Vec F S512x1024 .bf16) (old : Vec F S2112x1024 .f32)
    (k : Fin k0_t1_loop.trips) :
    iprop(owns (c : Thread nD τ) arg1 fullShare x0 ∗ owns (c : Thread nD τ) arg2 fullShare x1 ∗ owns (c : Thread nD τ) arg3 fullShare x2
        ∗ owns (c : Thread nD τ) arg4 fullShare (upto i x0 x1 x2 old k.val))
      ⊢ wp frame (wpE (defs₀ (F := F)) Variants.none (c : Thread nD τ) none) E (k0_t1_body (F := F) i arg1 harg1 arg2 harg2 arg3 harg3 arg4 harg4 k PUnit.unit)
          (fun _ => (iprop(owns (c : Thread nD τ) arg1 fullShare x0 ∗ owns (c : Thread nD τ) arg2 fullShare x1 ∗ owns (c : Thread nD τ) arg3 fullShare x2
        ∗ owns (c : Thread nD τ) arg4 fullShare (upto i x0 x1 x2 old (k.val + 1))) : sProp 𝕄)) := by
  have hk : k.val < 4 := Nat.lt_of_lt_of_le k.isLt k0_t1_abs.2.1
  unfold k0_t1_body
  unfold owns
  iintro ⟨⟨%f0, %hf0, H0⟩, ⟨%f1, %hf1, H1⟩, ⟨%f2, %hf2, H2⟩, ⟨%f3, %hf3, H3⟩⟩
  obtain rfl := harg1.eq_unread hf0; obtain rfl := harg2.eq_unread hf1; obtain rfl := harg3.eq_unread hf2
  by_cases h1 : k0_cond1 i = 1#1
  · have h2 : ¬k0_cond2 i = 1#1 := hc.mp h1
    simp -zeta -zetaDelta -eta -iota -proj only [dif_pos h1, dif_neg h2]
    sl_exec
    sl_step
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact H3
    ipureintro
    refine read_store i x0 x1 x2 old ⟨k.val, hk⟩ arg4.view _ hf3 (k0_off2_eq k) _ _ ?_
    unfold upd
    rw [if_pos h1, readAt_rows arg1.view _ ⟨k.val, hk⟩ (k0_off1_eq k), View.readAt_full, View.readAt_full, hf0, hf1, hf2]
  · have h2 : k0_cond2 i = 1#1 := by by_contra h; exact h1 (hc.mpr h)
    simp -zeta -zetaDelta -eta -iota -proj only [dif_neg h1, dif_pos h2]
    sl_exec
    sl_step
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact H3
    ipureintro
    refine read_store i x0 x1 x2 old ⟨k.val, hk⟩ arg4.view _ hf3 (k0_off3_eq k) _ _ ?_
    unfold upd
    rw [if_neg h1, readAt_rows arg1.view _ ⟨k.val, hk⟩ (k0_off1_eq k), View.readAt_full, View.readAt_full, hf0, hf1, hf2,
      readAt_rows arg4.view _ ⟨k.val, hk⟩ (k0_off3_eq k), hf3]
    rw [← rowsOf_upto i x0 x1 x2 old ⟨k.val, hk⟩]

/-- No trip has left anything before the first, and all of them leave every row. -/
theorem upto_zero (i : grid0.Coords) (x0 : Vec F S2112x1024 .bf16) (x1 : Vec F S1024x512 .bf16) (x2 : Vec F S512x1024 .bf16)
    (old : Vec F S2112x1024 .f32) : upto i x0 x1 x2 old 0 = old := by
  funext y
  exact if_neg (by omega)
theorem upto_trips (i : grid0.Coords) (x0 : Vec F S2112x1024 .bf16) (x1 : Vec F S1024x512 .bf16) (x2 : Vec F S512x1024 .bf16)
    (old : Vec F S2112x1024 .f32) : upto i x0 x1 x2 old k0_t1_loop.trips = done i x0 x1 x2 old := by
  funext y
  have hy : (y 0).val < 2112 := (y 0).isLt
  exact if_pos (by rw [show k0_t1_loop.trips = 4 by decide]; omega)

/-- The body at any point. -/
theorem body_run (c : Dev nD) (E : Set ℕ) (i : grid0.Coords) (arg1 : Memref sig .tc .vmem S2112x1024 .bf16) (harg1 : arg1.IsWhole)
    (arg2 : Memref sig .tc .vmem S1024x512 .bf16) (harg2 : arg2.IsWhole) (arg3 : Memref sig .tc .vmem S512x1024 .bf16) (harg3 : arg3.IsWhole)
    (arg4 : Memref sig .tc .vmem S2112x1024 .f32) (harg4 : arg4.IsWhole) (hc : k0_cond1 i = 1#1 ↔ ¬k0_cond2 i = 1#1)
    (x0 : Vec F S2112x1024 .bf16) (x1 : Vec F S1024x512 .bf16) (x2 : Vec F S512x1024 .bf16) (old : Vec F S2112x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare old
        ∗ (iprop(owns (c : Thread nD τ) arg1 fullShare x0 ∗ owns (c : Thread nD τ) arg2 fullShare x1 ∗ owns (c : Thread nD τ) arg3 fullShare x2
            ∗ owns (c : Thread nD τ) arg4 fullShare (done i x0 x1 x2 old)) -∗ K ⟨⟩))
      ⊢ wp frame (wpE (defs₀ (F := F)) Variants.none c none) E (cc0_mlp_core_fwd i arg1 harg1 arg2 harg2 arg3 harg3 arg4 harg4) K := by
  simp only [cc0_mlp_core_fwd_eq_skeleton]; unfold cc0_mlp_core_fwd_skel
  have L := Scf.wp_for_bind frame (wpE (defs₀ (F := F)) Variants.none (c : Thread nD τ) none) E k0_t1_loop.lb k0_t1_loop.ub k0_t1_loop.st k0_t1_ok ()
      (k0_t1_body (F := F) i arg1 harg1 arg2 harg2 arg3 harg3 arg4 harg4)
      (fun k _ => (iprop(owns (c : Thread nD τ) arg1 fullShare x0 ∗ owns (c : Thread nD τ) arg2 fullShare x1 ∗ owns (c : Thread nD τ) arg3 fullShare x2
        ∗ owns (c : Thread nD τ) arg4 fullShare (upto i x0 x1 x2 old k)) : sProp 𝕄))
      (fun k _ => trip_run c E i arg1 harg1 arg2 harg2 arg3 harg3 arg4 harg4 hc x0 x1 x2 old k) (kk := fun _ => pure PUnit.unit) (Q := K)
  dsimp only at L
  rw [upto_zero, show Scf.trips k0_t1_loop.lb k0_t1_loop.ub k0_t1_loop.st = k0_t1_loop.trips from rfl, upto_trips] at L
  iintro ⟨H0, H1, H2, H3, Hk⟩
  ihave HL := L $$ [H0 H1 H2 H3]
  · isplitl [H0]; · iexact H0
    isplitl [H1]; · iexact H1
    isplitl [H2]; · iexact H2
    iexact H3
  iapply HL
  iintro %_ H
  sl_step
  iapply Hk
  iexact H

/-! ## The proof data -/

variable (m : (ℓ : Loc nD τ sig) → Buf (Elt F) ℓ) (ρ : Dev nD → PrngReg)

/-- The first point stores, the later ones add. -/
theorem cond : ∀ t : Fin cfg0.N, k0_cond1 (grid0.coords t) = 1#1 ↔ ¬k0_cond2 (grid0.coords t) = 1#1 :=
  (by decide +kernel : ∀ t : Fin grid0.N, _)
theorem cond_first : ∀ t : Fin cfg0.N, k0_cond1 (grid0.coords t) = 1#1 ↔ t.val = 0 :=
  (by decide +kernel : ∀ t : Fin grid0.N, _)
theorem live : ∀ i : grid0.Coords, cfg0.idle 3 i = false := by decide +kernel

/-- What the first `n + 1` points leave in the result's buffer. -/
def acc (c : Dev nD) : (n : ℕ) → n < cfg0.N → Vec F S2112x1024 .f32
  | 0, h => done (grid0.coords ⟨0, h⟩) (iblk m c 0 ⟨0, h⟩) (iblk m c 1 ⟨0, h⟩) (iblk m c 2 ⟨0, h⟩) (fun _ => Scalar.ofBits .f32 0x00000000#32)
  | n + 1, h => done (grid0.coords ⟨n + 1, h⟩) (iblk m c 0 ⟨n + 1, h⟩) (iblk m c 1 ⟨n + 1, h⟩) (iblk m c 2 ⟨n + 1, h⟩)
      (acc c n (Nat.lt_of_succ_lt h))

/-- At the first point the prior contents do not matter. -/
theorem done_first (i : grid0.Coords) (h : k0_cond1 i = 1#1) (x0 : Vec F S2112x1024 .bf16) (x1 : Vec F S1024x512 .bf16) (x2 : Vec F S512x1024 .bf16)
    (old old' : Vec F S2112x1024 .f32) : done i x0 x1 x2 old = done i x0 x1 x2 old' := by
  funext y
  unfold done upd
  rw [if_pos h, if_pos h]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- After the first point the result's buffer holds what the point before left. -/
theorem before_3 (c : Dev nD) (n : ℕ) (h : n + 1 < cfg0.N) (d) :
    (dats m 0 c).before 3 ⟨n + 1, h⟩ d = acc m c n (Nat.lt_of_succ_lt h) :=
  ((dats m 0 c).before_out_kept 3 rfl ⟨n + 1, h⟩ (Nat.succ_ne_zero n)
    (by
      have hN : n + 1 < 8 := lt_of_lt_of_eq h (show cfg0.N = 8 from N_0)
      rw [Bool.eq_false_iff]
      intro hf
      have := (flush0_3 _).mp hf
      dsimp only at this
      omega) live (fun _ _ => rfl) d).trans (after_3 m c _)

/-- What a point leaves, over what it finds. -/
theorem acc_eq (c : Dev nD) (t : Fin cfg0.N) (d) :
    acc m c t.val t.isLt = done (grid0.coords t) (iblk m c 0 t) (iblk m c 1 t) (iblk m c 2 t) ((dats m 0 c).before 3 t d) := by
  obtain ⟨n, h⟩ := t
  cases n with
  | zero => exact done_first _ ((cond_first ⟨0, h⟩).mpr rfl) _ _ _ _ _
  | succ n => rw [before_3]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl]
  rw [show (dats m 0 c).leavesExact 0 t = owns (c : Thread nD τ) (st0_0 t) fullShare (iblk m c 0 t) from by
    rw [← after_0]]
  rw [show (dats m 0 c).leavesExact 1 t = owns (c : Thread nD τ) (st0_1 t) fullShare (iblk m c 1 t) from by
    rw [← after_1]]
  rw [show (dats m 0 c).leavesExact 2 t = owns (c : Thread nD τ) (st0_2 t) fullShare (iblk m c 2 t) from by
    rw [← after_2]]
  rw [show (dats m 0 c).leavesExact 3 t = owns (c : Thread nD τ) (st0_3 t) fullShare (acc m c t.val t.isLt) from by
    unfold Dat.leavesExact; rw [live, after_3]]
  iintro ⟨HΦ, Ho, ⟨%d0, H0⟩, ⟨%d1, H1⟩, ⟨%d2, H2⟩, ⟨%d3, H3⟩⟩
  iapply (body_run c Set.univ (grid0.coords t) _ _ _ _ _ _ _ _ (cond t) (iblk m c 0 t) (iblk m c 1 t) (iblk m c 2 t) ((dats m 0 c).before 3 t d3) _)
  rw [← acc_eq m c t d3]
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they were and no semaphore counts. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- The result after the run is what the write-back of the last point leaves. -/
theorem run_blocks : θ_run defs (onTc (τ := τ) (main (F := F))) ⟨m, fun _ => 0, ρ⟩ fun r => ∀ c : Dev nD,
      r.2.mem ((c : Thread nD τ).loc main_v3) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, h.2 c⟩) (θ_run_and (run_main m ρ) (frame_of m ρ (dats m) (A_eq m) (run_main m ρ)))

end Cert.Kernel5Ideal.Mlp

end
-- ==== Proof.MlpFwd.lean ====
/-
  The forward pass of the multilayer perceptron: a point adds the contribution of its 512 hidden columns to every entry, hence
  the result is the sum over all of them.
-/
module

public import proofs.«01_k».proof.Defs
public import proofs.«01_k».proof.Proof.MlpFwdBits
public import proofs.«01_k».proof.Proof.MlpFwdRun
public import proofs.«01_k».proof.Proof.Gen.Reference5Ideal.Read

@[expose] public section

noncomputable section

open Idealize.ShloMosaic Idealize.ShloMosaic.TcCoe Idealize.SL.Sem
open Idealize.ShloMosaic.Pipeline (Dat)

namespace Cert.MlpFwd

open Cert.Kernel5Ideal Cert.Kernel5Ideal.Gen Cert.Kernel5Ideal.Mlp

variable (m : (ℓ : Loc nD τ sig) → Buf (Elt Ideal) ℓ) (c : Dev nD)

/-- The activations and the two weights, as launched. -/
abbrev u : (⟨S2112x1024, .f32⟩ : BufTy).Contents (Elt Ideal) := m ((c : Thread nD τ).loc main_arg0)
abbrev wu : (⟨S1024x4096, .f32⟩ : BufTy).Contents (Elt Ideal) := m ((c : Thread nD τ).loc main_arg1)
abbrev wd : (⟨S4096x1024, .f32⟩ : BufTy).Contents (Elt Ideal) := m ((c : Thread nD τ).loc main_arg2)

theorem idx : ∀ t : Fin cfg0.N, win0_0.index t = ![0, 0] ∧ win0_1.index t = ![0, t.val] ∧ win0_2.index t = ![t.val, 0]
    ∧ win0_3.index t = ![0, 0] :=
  (by decide +kernel : ∀ t : Fin grid0.N, _)

/-- The squared positive part. -/
def sq (x : EReal) : EReal := max x 0 * max x 0

/-- What one point's hidden columns contribute to an entry. -/
def part (x0 : Vec Ideal S2112x1024 .bf16) (x1 : Vec Ideal S1024x512 .bf16) (x2 : Vec Ideal S512x1024 .bf16) (y : S2112x1024.Idx) : EReal :=
  ∑ k : Fin 512, sq (∑ l : Fin 1024, x0 (ix2 (y 0) l) * x1 (ix2 l k)) * x2 (ix2 k (y 1))

theorem pay1_at (v4 : Vec Ideal S528x1024 .bf16) (v6 : Vec Ideal S1024x512 .bf16) (v12 : Vec Ideal S512x1024 .bf16) (z : S528x1024.Idx) :
    k0_pay1 (F := Ideal) v4 v6 v12 z = ∑ k : Fin 512, sq (∑ l : Fin 1024, v4 (ix2 (z 0) l) * v6 (ix2 l k)) * v12 (ix2 k (z 1)) := by
  unfold sq
  pointwise [k0_pay1]

theorem pay2_at (v4 : Vec Ideal S528x1024 .bf16) (v6 : Vec Ideal S1024x512 .bf16) (v12 : Vec Ideal S512x1024 .bf16)
    (v : Vec Ideal S528x1024 .f32) (z : S528x1024.Idx) :
    k0_pay2 (F := Ideal) v4 v6 v12 v z = v z + k0_pay1 (F := Ideal) v4 v6 v12 z := by
  pointwise [k0_pay2]

/-- A row's place in its block of rows. -/
theorem rowsOf_at {e : EltTy} (x : Vec Ideal S2112x1024 e) (y : S2112x1024.Idx) (l : Fin 1024) (h : (y 0).val / 528 < 4)
    (h' : (y 0).val % 528 < 528) : rowsOf x ⟨(y 0).val / 528, h⟩ (ix2 ⟨(y 0).val % 528, h'⟩ l) = x (ix2 (y 0) l) := by
  refine congrArg x (funext fun a => Fin.ext ?_)
  match a with
  | ⟨0, _⟩ => show 528 * ((y 0).val / 528) + (y 0).val % 528 = (y 0).val; omega
  | ⟨1, _⟩ => rfl

theorem pay1_rows (x0 : Vec Ideal S2112x1024 .bf16) (x1 : Vec Ideal S1024x512 .bf16) (x2 : Vec Ideal S512x1024 .bf16) (y : S2112x1024.Idx)
    (h : (y 0).val / 528 < 4) (h' : (y 0).val % 528 < 528) :
    k0_pay1 (F := Ideal) (rowsOf x0 ⟨(y 0).val / 528, h⟩) x1 x2 (ix2 ⟨(y 0).val % 528, h'⟩ (y 1)) = part x0 x1 x2 y := by
  rw [pay1_at]
  unfold part
  refine Finset.sum_congr rfl fun k _ => congrArg₂ (· * ·) (congrArg sq (Finset.sum_congr rfl fun l _ => ?_)) rfl
  exact congrArg (· * _) (rowsOf_at x0 y l h h')

theorem first_at (t : Fin cfg0.N) (h : t.val % 8 = 0) (y : S2112x1024.Idx) :
    acc m c t.val t.isLt y = 0 + part (iblk m c 0 t) (iblk m c 1 t) (iblk m c 2 t) y := by
  obtain ⟨n, hn⟩ := t
  cases n with
  | succ n =>
    have hN : n + 1 < 8 := lt_of_lt_of_eq hn (show cfg0.N = 8 from N_0)
    exact absurd (show (n + 1) % 8 = 0 from h) (by omega)
  | zero =>
    show done (grid0.coords ⟨0, hn⟩) _ _ _ _ y = _
    unfold done upd
    rw [if_pos ((cond_first ⟨0, hn⟩).mpr rfl), zero_add]
    exact pay1_rows _ _ _ y _ _

theorem later_at (t : Fin cfg0.N) (h : ¬t.val % 8 = 0) (y : S2112x1024.Idx) :
    acc m c t.val t.isLt y = acc m c (t.val - 1) (Nat.lt_of_le_of_lt (Nat.sub_le _ _) t.isLt) y + part (iblk m c 0 t) (iblk m c 1 t) (iblk m c 2 t) y := by
  obtain ⟨n, hn⟩ := t
  cases n with
  | zero => exact absurd rfl h
  | succ n =>
    show done (grid0.coords ⟨n + 1, hn⟩) _ _ _ (acc m c n _) y = _
    unfold done upd
    rw [if_neg (fun h => Nat.succ_ne_zero n ((cond_first ⟨n + 1, hn⟩).mp h)), pay2_at]
    refine congrArg₂ (· + ·) ?_ (pay1_rows _ _ _ y _ _)
    exact (rowsOf_at (acc m c n _) y (y 1) _ _).trans (congrArg (acc m c n _) (ix2_eta y))

theorem sum_at (t : Fin cfg0.N) (h : t.val % 8 = 7) (y : S2112x1024.Idx) :
    acc m c t.val t.isLt y
      = ∑ s : Fin 8, part (iblk m c 0 ⟨8 * (t.val / 8) + s.val, Pipeline.run_point_lt_of_flush t h s⟩) (iblk m c 1 ⟨8 * (t.val / 8) + s.val, Pipeline.run_point_lt_of_flush t h s⟩)
          (iblk m c 2 ⟨8 * (t.val / 8) + s.val, Pipeline.run_point_lt_of_flush t h s⟩) y := by
  rw [Pipeline.eq_sum_fin_of_reset_step_apply_of_flush (fun n h => acc m c n h) 8 (fun _ => 0) _
      (fun t h y => first_at m c t h y) (fun t h y => later_at m c t h y) t h y, zero_add]

theorem u_at (t : Fin cfg0.N) (i : Fin 2112) (k : Fin 1024) (r : S2112x1024.Idx) (h0 : (r 0).val = i.val)
    (h1 : (r 1).val = k.val) : iblk m c 0 t (ix2 i k) = u m c r := by
  unfold u
  blk_simp [iblk, idx t]
  entry_read
  pointwise
  blk_ext [idx t, h0, h1]

theorem wu_at (t : Fin cfg0.N) (l : Fin 1024) (k : Fin 512) (r : S1024x4096.Idx) (h0 : (r 0).val = l.val)
    (h1 : (r 1).val = t.val * 512 + k.val) : iblk m c 1 t (ix2 l k) = wu m c r := by
  unfold wu
  blk_simp [iblk, idx t]
  entry_read
  pointwise
  blk_ext [idx t, h0, h1]

theorem wd_at (t : Fin cfg0.N) (k : Fin 512) (i : Fin 1024) (r : S4096x1024.Idx) (h0 : (r 0).val = t.val * 512 + k.val)
    (h1 : (r 1).val = i.val) : iblk m c 2 t (ix2 k i) = wd m c r := by
  unfold wd
  blk_simp [iblk, idx t]
  entry_read
  pointwise
  blk_ext [idx t, h0, h1]

theorem pos_0 (t : Fin cfg0.N) (y : S2112x1024.Idx) : ((win0_3.blk t).view.emb y 0).val = (y 0).val := by
  blk_simp [idx t]
theorem pos_1 (t : Fin cfg0.N) (y : S2112x1024.Idx) : ((win0_3.blk t).view.emb y 1).val = (y 1).val := by
  blk_simp [idx t]

/-- The reference's hidden entry. -/
theorem hidden_at (x0 : (⟨S2112x1024, .f32⟩ : BufTy).Contents (Elt Ideal)) (x1 : (⟨S1024x4096, .f32⟩ : BufTy).Contents (Elt Ideal)) (i : Cert.Reference5Ideal.S2112x4096.Idx) :
    Cert.Reference5Ideal.Read.val_main_v2 (F := Ideal) x0 x1 i
      = sq (∑ k : Fin 1024, x0 (Cert.Reference5Ideal.Read.lidx_main_v0 i k) * x1 (Cert.Reference5Ideal.Read.ridx_main_v0 i k)) := by
  rw [Cert.Reference5Ideal.Read.val_main_v2_apply, Cert.Reference5Ideal.Read.val_main_v1_apply, Cert.Reference5Ideal.Read.val_main_v0_apply,
    Cert.Reference5Ideal.Read.val_main_call0_v0_apply, Cert.Reference5Ideal.Read.val_main_call0_cst_apply]
  unfold sq
  pointwise

/-- The kernel's result is the reference's. -/
theorem arr_eq : (dats m 0 c).arrAt 3 cfg0.N = Cert.Reference5Ideal.Read.val_main_v3 (F := Ideal) (u m c) (wu m c) (wd m c) := by
  refine (dats m 0 c).arrAt_eq_of_covers 3 _ (by decide +kernel) fun t hf y => ?_
  have h := (flush0_3 t).mp hf
  have hN : t.val < 8 := lt_of_lt_of_eq t.isLt (show cfg0.N = 8 from N_0)
  blk_simp
  rw [after_3]
  refine (sum_at m c t h _).trans ?_
  rw [Cert.Reference5Ideal.Read.val_main_v3_apply]
  unfold part
  refine Fin.sum_mul_add_congr fun s k hl => ?_
  have hs := s.isLt
  rw [hidden_at]
  refine congrArg₂ (· * ·) (congrArg sq (Finset.sum_congr rfl fun l _ => congrArg₂ (· * ·) (u_at m c _ _ l _ ?_ ?_) (wu_at m c _ l k _ ?_ ?_))) (wd_at m c _ k _ _ ?_ ?_)
  · exact pos_0 t y
  · rfl
  · rfl
  · show s.val * 512 + k.val = (8 * (t.val / 8) + s.val) * 512 + k.val
    omega
  · show s.val * 512 + k.val = (8 * (t.val / 8) + s.val) * 512 + k.val
    omega
  · exact pos_1 t y

/-- The kernel's result after the run. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v3) = Cert.Reference5Ideal.Read.val_main_v3 (F := Ideal) (u m c) (wu m c) (wd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1.trans (arr_eq m c), (h c).2⟩) (run_blocks m g)

theorem frame_kernel : Cert.quiescent_Kernel5 := fun m g _ => Cert.Kernel5.Mlp.frame m g
theorem frame_ideal : Cert.quiescent_Kernel5Ideal := fun m g _ => Cert.Kernel5Ideal.Mlp.frame m g

/-- The reference leaves its arguments as they were; it has no semaphores. -/
theorem frame_reference : Cert.quiescent_Reference5Ideal := fun m g _ =>
  (θ_run _ _ _).mono (fun _ h => ⟨fun c => (h c).2, sem_eq_zero_of_no_sems (by decide) _⟩) (Cert.Reference5Ideal.Value.run m g)

/-- Both programs leave the same result. -/
theorem algebraic : Cert.algebraic_Kernel5Ideal_Reference5Ideal := by
  intro m g m' g' _ hm
  refine ⟨fun c => Cert.Reference5Ideal.Read.val_main_v3 (F := Ideal) (u m c) (wu m c) (wd m c), kernel_run m g, ?_⟩
  refine (θ_run _ _ _).mono (fun r h c => ⟨(h c).1.trans ?_, (h c).2⟩) (Cert.Reference5Ideal.Value.run m' g')
  obtain ⟨e0, e1, e2⟩ := hm c
  rw [Cert.Reference5Ideal.Read.val_main_v3_eq, e0, e1, e2]

end Cert.MlpFwd

end
-- ==== Proof.MlpBwdTrip.lean ====
/-
  The backward pass of the multilayer perceptron, one grid point at a time: a point takes 512 of the 4096 hidden columns, and
  its counted loop over four blocks of 528 rows sums the point's blocks of both weights' gradients and leaves in the input's
  gradient, held in scratch, each block's product (first point) or adds it (later points). The first point copies the input
  and the cotangent into scratch, the last copies the input's gradient out.
-/
module

public import proofs.«01_k».proof.Proof.Gen.Kernel6Ideal.Frame
public import proofs.«01_k».proof.Proof.Gen.Kernel6Ideal.Skeleton
public import Idealize.ShloMosaic.Lib.WritesUnit
public import Idealize.ShloMosaic.Lib.VecWindow
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (Pipeline.UD sig nD τ) ℕ

/-! ## What a trip computes -/

/-- The `q`-th block of 528 rows. -/
def rowsOf {e : EltTy} (x : Vec F S2112x1024 e) (q : Fin 4) : Vec F S528x1024 e :=
  fun z => x (ix2 ⟨528 * q.val + (z 0).val, by have h : (z 0).val < 528 := (z 0).isLt; have := q.isLt; omega⟩ (z 1))

section
variable (i : grid0.Coords) (u : Vec F S2112x1024 .bf16) (d : Vec F S2112x1024 .f32) (wu : Vec F S1024x512 .bf16) (wd : Vec F S512x1024 .bf16)

/-- The two weights' gradients after one more block of rows: the first block's product is stored, the others are added. -/
def step6 (q : Fin 4) (s : Vec F S1024x512 .f32) : Vec F S1024x512 .f32 :=
  if q.val = 0 then k0_pay7 (rowsOf u q) (rowsOf d q) wu wd else k0_pay10 (rowsOf u q) (rowsOf d q) wu wd s
def step7 (q : Fin 4) (s : Vec F S512x1024 .f32) : Vec F S512x1024 .f32 :=
  if q.val = 0 then k0_pay6 (rowsOf u q) (rowsOf d q) wu else k0_pay9 (rowsOf u q) (rowsOf d q) wu s

/-- After `n` blocks, from what the buffers held. -/
def sum6 (s : Vec F S1024x512 .f32) : ℕ → Vec F S1024x512 .f32
  | 0 => s
  | n + 1 => if h : n < 4 then step6 u d wu wd ⟨n, h⟩ (sum6 s n) else sum6 s n
def sum7 (s : Vec F S512x1024 .f32) : ℕ → Vec F S512x1024 .f32
  | 0 => s
  | n + 1 => if h : n < 4 then step7 u d wu ⟨n, h⟩ (sum7 s n) else sum7 s n

/-- The block's rows of the input's gradient: stored at the first point, added at the later ones. -/
def upd (old : Vec F S2112x1024 .f32) (q : Fin 4) : Vec F S528x1024 .f32 :=
  if k0_cond4 i = 1#1 then k0_pay1 (k0_pay8 (rowsOf u q) (rowsOf d q) wu wd wu)
  else k0_pay2 (k0_pay8 (rowsOf u q) (rowsOf d q) wu wd wu) (rowsOf old q)

/-- What all the trips leave. -/
def done (old : Vec F S2112x1024 .f32) : Vec F S2112x1024 .f32 :=
  fun y => upd i u d wu wd old ⟨(y 0).val / 528, by have h : (y 0).val < 2112 := (y 0).isLt; omega⟩
    (ix2 ⟨(y 0).val % 528, Nat.mod_lt _ (by omega)⟩ (y 1))

/-- What the first `k` trips leave. -/
def upto (old : Vec F S2112x1024 .f32) (k : ℕ) : Vec F S2112x1024 .f32 :=
  fun y => if (y 0).val < 528 * k then done i u d wu wd old y else old y

theorem sum6_any (s s' : Vec F S1024x512 .f32) (n : ℕ) : sum6 u d wu wd s (n + 1) = sum6 u d wu wd s' (n + 1) := by
  induction n with
  | zero => unfold sum6; rw [dif_pos (show 0 < 4 by omega), dif_pos (show 0 < 4 by omega)]; unfold step6; rw [if_pos rfl, if_pos rfl]
  | succ n ih =>
    have e : ∀ s, sum6 u d wu wd s (n + 1 + 1)
        = if h : n + 1 < 4 then step6 u d wu wd ⟨n + 1, h⟩ (sum6 u d wu wd s (n + 1)) else sum6 u d wu wd s (n + 1) := fun _ => rfl
    rw [e, e, ih]
theorem sum7_any (s s' : Vec F S512x1024 .f32) (n : ℕ) : sum7 u d wu s (n + 1) = sum7 u d wu s' (n + 1) := by
  induction n with
  | zero => unfold sum7; rw [dif_pos (show 0 < 4 by omega), dif_pos (show 0 < 4 by omega)]; unfold step7; rw [if_pos rfl, if_pos rfl]
  | succ n ih =>
    have e : ∀ s, sum7 u d wu s (n + 1 + 1)
        = if h : n + 1 < 4 then step7 u d wu ⟨n + 1, h⟩ (sum7 u d wu s (n + 1)) else sum7 u d wu s (n + 1) := fun _ => rfl
    rw [e, e, ih]

/-- At the first point the prior contents do not matter. -/
theorem done_first (h : k0_cond4 i = 1#1) (old old' : Vec F S2112x1024 .f32) : done i u d wu wd old = done i u d wu wd old' := by
  funext y
  unfold done upd
  rw [if_pos h, if_pos h]

/-- A trip's rows are not yet touched by the trips before it. -/
theorem rowsOf_upto (old : Vec F S2112x1024 .f32) (q : Fin 4) : rowsOf (upto i u d wu wd old q.val) q = rowsOf old q := by
  funext z
  refine if_neg ?_
  show ¬528 * q.val + (z 0).val < 528 * q.val
  omega

/-- One trip's store takes what the first `k` trips leave to what the first `k + 1` leave. -/
theorem read_store (old : Vec F S2112x1024 .f32) (q : Fin 4) (v : View sig .tc .vmem S2112x1024 .f32) (f : v.ty.Contents (Elt F))
    (hf : v.read (Elt F) f = upto i u d wu wd old q.val) {off : Fin 2 → ℕ} (hoff : off = ![528 * q.val, 0])
    (inb : ∀ a, off a + S528x1024.size a ≤ S2112x1024.size a) (w : Vec F S528x1024 .f32) (hw : w = upd i u d wu wd old q) :
    v.read (Elt F) (v.writes (Elt F) f [⟨Rect.unit (s := S2112x1024) off S528x1024.size inb, w⟩]) = upto i u d wu wd old (q.val + 1) := by
  funext y
  have hy : (y 0).val < 2112 := (y 0).isLt
  have hq := q.isLt
  by_cases h : 528 * q.val ≤ (y 0).val ∧ (y 0).val < 528 * q.val + 528
  · rw [View.read_writes_cons_rows_of_mem v f inb w [] y (ix2 ⟨(y 0).val % 528, Nat.mod_lt _ (by omega)⟩ (y 1)) hoff
      (by show (y 0).val = 528 * q.val + (y 0).val % 528; omega) rfl]
    unfold upto
    rw [if_pos (by omega), hw]
    unfold done
    rw [show (⟨(y 0).val / 528, by omega⟩ : Fin 4) = q from Fin.ext (by show (y 0).val / 528 = q.val; omega)]
  · rw [View.read_writes_cons_rows_of_not_mem (W := 528) v f inb w [] y hoff rfl (by omega)]
    refine (congrFun hf y).trans ?_
    unfold upto
    by_cases h' : (y 0).val < 528 * q.val
    · rw [if_pos h', if_pos (by omega)]
    · rw [if_neg h', if_neg (by omega)]

/-- No trip has left anything before the first, and all of them leave every row. -/
theorem upto_zero (old : Vec F S2112x1024 .f32) : upto i u d wu wd old 0 = old := by
  funext y
  exact if_neg (by omega)
theorem upto_trips (old : Vec F S2112x1024 .f32) : upto i u d wu wd old k0_t1_loop.trips = done i u d wu wd old := by
  funext y
  have hy : (y 0).val < 2112 := (y 0).isLt
  exact if_pos (by rw [show k0_t1_loop.trips = 4 by decide]; omega)
end

/-- A load of 528 rows reads a block of rows. -/
theorem readAt_rows {e : EltTy} (v : View sig .tc .vmem S2112x1024 e) (f : v.ty.Contents (Elt F)) {off : Fin 2 → ℕ} (q : Fin 4)
    (hoff : off = ![528 * q.val, 0]) (inb : ∀ a, off a + S528x1024.size a ≤ S2112x1024.size a) :
    v.readAt (Elt F) (Rect.unit (s := S2112x1024) off S528x1024.size inb).toLoadRect f = rowsOf (v.read (Elt F) f) q := by
  subst hoff
  funext z
  refine congrArg (v.read (Elt F) f) (funext fun a => Fin.ext ?_)
  match a with
  | ⟨0, _⟩ => show 528 * q.val + 1 * (z 0).val = 528 * q.val + (z 0).val; omega
  | ⟨1, _⟩ => show 0 + 1 * (z 1).val = (z 1).val; omega

/-- A whole-block store, the last one made, is what is read back. -/
theorem read_full {κ : Kind} {sp : Space} {S : Shape} {e : EltTy} (v : View sig κ sp S e) (f : _)
    {off : Fin S.rank → Nat} (inb : ∀ a, off a + S.size a ≤ S.size a) (w : S.Idx → Elt F e)
    (L : List (View.Piece (Elt F) S e)) (h : ∀ a, off a = 0) :
    v.read (Elt F) (v.writes (Elt F) f ((⟨Rect.unit off S.size inb, w⟩ : View.Piece (Elt F) S e) :: L)) = w :=
  funext fun y => View.read_writes_cons_unit_of_mem v f inb w L y y rfl fun a => by rw [h a, Nat.zero_add]

/-- A copy into a whole block is what is read back. -/
theorem read_copy {κ : Kind} {sp : Space} {S : Shape} {e : EltTy} (v : View sig κ sp S e) (f : _)
    (w : S.Idx → Elt F e) (L : List (View.Piece (Elt F) S e)) :
    v.read (Elt F) (v.writes (Elt F) f ((⟨Rect.whole S, w⟩ : View.Piece (Elt F) S e) :: L)) = w :=
  read_full v f (fun a => by simp) w L fun _ => rfl

/-! ## A trip -/

theorem cond_trip : ∀ k : Fin k0_t1_loop.trips, (k0_cond2 k = 1#1 ↔ k.val = 0) ∧ (k0_cond3 k = 1#1 ↔ ¬k.val = 0) := by decide +kernel

/-- What the trips work on, after `k` of them. -/
def held (c : Dev nD) (i : grid0.Coords) (arg3 : Memref sig .tc .vmem S1024x512 .bf16) (arg4 : Memref sig .tc .vmem S512x1024 .bf16)
    (arg6 : Memref sig .tc .vmem S1024x512 .f32) (arg7 : Memref sig .tc .vmem S512x1024 .f32) (arg8 : Memref sig .tc .vmem S2112x1024 .bf16)
    (arg9 arg10 : Memref sig .tc .vmem S2112x1024 .f32)
    (u : Vec F S2112x1024 .bf16) (d : Vec F S2112x1024 .f32) (wu : Vec F S1024x512 .bf16) (wd : Vec F S512x1024 .bf16)
    (s6 : Vec F S1024x512 .f32) (s7 : Vec F S512x1024 .f32) (old : Vec F S2112x1024 .f32) (k : ℕ) : sProp 𝕄 :=
  iprop(owns (c : Thread nD τ) arg3 fullShare wu ∗ owns (c : Thread nD τ) arg4 fullShare wd
    ∗ owns (c : Thread nD τ) arg6 fullShare (sum6 u d wu wd s6 k) ∗ owns (c : Thread nD τ) arg7 fullShare (sum7 u d wu s7 k)
    ∗ owns (c : Thread nD τ) arg8 fullShare u ∗ owns (c : Thread nD τ) arg9 fullShare d
    ∗ owns (c : Thread nD τ) arg10 fullShare (upto i u d wu wd old k))

theorem trip_run (c : Dev nD) (E : Set ℕ) (i : grid0.Coords) (arg1 : Memref sig .tc .hbm S2112x1024 .bf16) (harg1 : arg1.IsWhole)
    (arg2 : Memref sig .tc .hbm S2112x1024 .f32) (harg2 : arg2.IsWhole) (arg3 : Memref sig .tc .vmem S1024x512 .bf16) (harg3 : arg3.IsWhole)
    (arg4 : Memref sig .tc .vmem S512x1024 .bf16) (harg4 : arg4.IsWhole) (arg5 : Memref sig .tc .hbm S2112x1024 .f32) (harg5 : arg5.IsWhole)
    (arg6 : Memref sig .tc .vmem S1024x512 .f32) (harg6 : arg6.IsWhole) (arg7 : Memref sig .tc .vmem S512x1024 .f32) (harg7 : arg7.IsWhole)
    (arg8 : Memref sig .tc .vmem S2112x1024 .bf16) (harg8 : arg8.IsWhole) (arg9 : Memref sig .tc .vmem S2112x1024 .f32) (harg9 : arg9.IsWhole)
    (arg10 : Memref sig .tc .vmem S2112x1024 .f32) (harg10 : arg10.IsWhole) (r0 r1 r2) (a0 : BitVec 32)
    (hc : k0_cond4 i = 1#1 ↔ ¬k0_cond5 i = 1#1)
    (u : Vec F S2112x1024 .bf16) (d : Vec F S2112x1024 .f32) (wu : Vec F S1024x512 .bf16) (wd : Vec F S512x1024 .bf16)
    (s6 : Vec F S1024x512 .f32) (s7 : Vec F S512x1024 .f32) (old : Vec F S2112x1024 .f32) (k : Fin k0_t1_loop.trips) :
    (held c i arg3 arg4 arg6 arg7 arg8 arg9 arg10 u d wu wd s6 s7 old k.val : sProp 𝕄)
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 r0 r1 r2 a0 k PUnit.unit)
          (fun _ => held c i arg3 arg4 arg6 arg7 arg8 arg9 arg10 u d wu wd s6 s7 old (k.val + 1)) := by
  have hk : k.val < 4 := Nat.lt_of_lt_of_le k.isLt k0_t1_abs.2.1
  obtain ⟨hc2, hc3⟩ := cond_trip k
  unfold k0_t1_body
  simp only [k0_part1_eq_skeleton]
  unfold k0_part1_skel held owns
  iintro ⟨⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩⟩
  obtain rfl := harg3.eq_unread hf3; obtain rfl := harg4.eq_unread hf4
  obtain rfl := harg8.eq_unread hf8; obtain rfl := harg9.eq_unread hf9
  by_cases hz : k.val = 0 <;> by_cases h4 : k0_cond4 i = 1#1
  · have h2 : k0_cond2 k = 1#1 := hc2.mpr hz
    have h3 : ¬k0_cond3 k = 1#1 := fun h => hc3.mp h hz
    have h5 : ¬k0_cond5 i = 1#1 := hc.mp h4
    simp -zeta -zetaDelta -eta -iota -proj only [dif_pos h2, dif_neg h3, dif_pos h4, dif_neg h5]
    sl_exec
    sl_step
    isplitl [H3]
    · iexists _; isplitr; · ipureintro; exact harg3.read_unread _
      iexact H3
    isplitl [H4]
    · iexists _; isplitr; · ipureintro; exact harg4.read_unread _
      iexact H4
    isplitl [H6]
    · iexists _; isplitr
      swap; · iexact H6
      ipureintro
      rw [sum6, dif_pos hk]
      refine (read_full _ _ _ _ _ (by decide)).trans ?_
      unfold step6
      rw [if_pos hz, readAt_rows arg8.view _ ⟨k.val, hk⟩ (k0_off1_eq k), readAt_rows arg9.view _ ⟨k.val, hk⟩ (k0_off1_eq k), View.readAt_full, hf8, hf9, hf3, View.readAt_full, hf4]
    isplitl [H7]
    · iexists _; isplitr
      swap; · iexact H7
      ipureintro
      rw [sum7, dif_pos hk]
      refine (read_full _ _ _ _ _ (by decide)).trans ?_
      unfold step7
      rw [if_pos hz, readAt_rows arg8.view _ ⟨k.val, hk⟩ (k0_off1_eq k), readAt_rows arg9.view _ ⟨k.val, hk⟩ (k0_off1_eq k), View.readAt_full, hf8, hf9, hf3]
    isplitl [H8]
    · iexists _; isplitr; · ipureintro; exact harg8.read_unread _
      iexact H8
    isplitl [H9]
    · iexists _; isplitr; · ipureintro; exact harg9.read_unread _
      iexact H9
    iexists _; isplitr
    swap; · iexact H10
    ipureintro
    refine read_store i u d wu wd old ⟨k.val, hk⟩ arg10.view _ hf10 (k0_off2_eq k) _ _ ?_
    unfold upd
    rw [if_pos h4, readAt_rows arg8.view _ ⟨k.val, hk⟩ (k0_off1_eq k), readAt_rows arg9.view _ ⟨k.val, hk⟩ (k0_off1_eq k), View.readAt_full, hf8, hf9, hf3, View.readAt_full, hf4]
  · have h2 : k0_cond2 k = 1#1 := hc2.mpr hz
    have h3 : ¬k0_cond3 k = 1#1 := fun h => hc3.mp h hz
    have h5 : k0_cond5 i = 1#1 := by by_contra h; exact h4 (hc.mpr h)
    simp -zeta -zetaDelta -eta -iota -proj only [dif_pos h2, dif_neg h3, dif_neg h4, dif_pos h5]
    sl_exec
    sl_step
    isplitl [H3]
    · iexists _; isplitr; · ipureintro; exact harg3.read_unread _
      iexact H3
    isplitl [H4]
    · iexists _; isplitr; · ipureintro; exact harg4.read_unread _
      iexact H4
    isplitl [H6]
    · iexists _; isplitr
      swap; · iexact H6
      ipureintro
      rw [sum6, dif_pos hk]
      refine (read_full _ _ _ _ _ (by decide)).trans ?_
      unfold step6
      rw [if_pos hz, readAt_rows arg8.view _ ⟨k.val, hk⟩ (k0_off1_eq k), readAt_rows arg9.view _ ⟨k.val, hk⟩ (k0_off1_eq k), View.readAt_full, hf8, hf9, hf3, View.readAt_full, hf4]
    isplitl [H7]
    · iexists _; isplitr
      swap; · iexact H7
      ipureintro
      rw [sum7, dif_pos hk]
      refine (read_full _ _ _ _ _ (by decide)).trans ?_
      unfold step7
      rw [if_pos hz, readAt_rows arg8.view _ ⟨k.val, hk⟩ (k0_off1_eq k), readAt_rows arg9.view _ ⟨k.val, hk⟩ (k0_off1_eq k), View.readAt_full, hf8, hf9, hf3]
    isplitl [H8]
    · iexists _; isplitr; · ipureintro; exact harg8.read_unread _
      iexact H8
    isplitl [H9]
    · iexists _; isplitr; · ipureintro; exact harg9.read_unread _
      iexact H9
    iexists _; isplitr
    swap; · iexact H10
    ipureintro
    refine read_store i u d wu wd old ⟨k.val, hk⟩ arg10.view _ hf10 (k0_off3_eq k) _ _ ?_
    unfold upd
    rw [if_neg h4, readAt_rows arg8.view _ ⟨k.val, hk⟩ (k0_off1_eq k), readAt_rows arg9.view _ ⟨k.val, hk⟩ (k0_off1_eq k), View.readAt_full, hf8, hf9, hf3, View.readAt_full, hf4]
    refine congrArg (k0_pay2 _) ((readAt_rows arg10.view _ ⟨k.val, hk⟩ (k0_off3_eq k) _).trans ?_)
    rw [hf10]; exact rowsOf_upto i u d wu wd old ⟨k.val, hk⟩
  · have h2 : ¬k0_cond2 k = 1#1 := fun h => hz (hc2.mp h)
    have h3 : k0_cond3 k = 1#1 := hc3.mpr hz
    have h5 : ¬k0_cond5 i = 1#1 := hc.mp h4
    simp -zeta -zetaDelta -eta -iota -proj only [dif_neg h2, dif_pos h3, dif_pos h4, dif_neg h5]
    sl_exec
    sl_step
    isplitl [H3]
    · iexists _; isplitr; · ipureintro; exact harg3.read_unread _
      iexact H3
    isplitl [H4]
    · iexists _; isplitr; · ipureintro; exact harg4.read_unread _
      iexact H4
    isplitl [H6]
    · iexists _; isplitr
      swap; · iexact H6
      ipureintro
      rw [sum6, dif_pos hk]
      refine (read_full _ _ _ _ _ (by decide)).trans ?_
      unfold step6
      rw [if_neg hz, readAt_rows arg8.view _ ⟨k.val, hk⟩ (k0_off1_eq k), readAt_rows arg9.view _ ⟨k.val, hk⟩ (k0_off1_eq k), View.readAt_full, hf8, hf9, hf3, View.readAt_full, hf4, View.readAt_full, hf6]
    isplitl [H7]
    · iexists _; isplitr
      swap; · iexact H7
      ipureintro
      rw [sum7, dif_pos hk]
      refine (read_full _ _ _ _ _ (by decide)).trans ?_
      unfold step7
      rw [if_neg hz, readAt_rows arg8.view _ ⟨k.val, hk⟩ (k0_off1_eq k), readAt_rows arg9.view _ ⟨k.val, hk⟩ (k0_off1_eq k), View.readAt_full, hf8, hf9, hf3, View.readAt_full, hf7]
    isplitl [H8]
    · iexists _; isplitr; · ipureintro; exact harg8.read_unread _
      iexact H8
    isplitl [H9]
    · iexists _; isplitr; · ipureintro; exact harg9.read_unread _
      iexact H9
    iexists _; isplitr
    swap; · iexact H10
    ipureintro
    refine read_store i u d wu wd old ⟨k.val, hk⟩ arg10.view _ hf10 (k0_off2_eq k) _ _ ?_
    unfold upd
    rw [if_pos h4, readAt_rows arg8.view _ ⟨k.val, hk⟩ (k0_off1_eq k), readAt_rows arg9.view _ ⟨k.val, hk⟩ (k0_off1_eq k), View.readAt_full, hf8, hf9, hf3, View.readAt_full, hf4]
  · have h2 : ¬k0_cond2 k = 1#1 := fun h => hz (hc2.mp h)
    have h3 : k0_cond3 k = 1#1 := hc3.mpr hz
    have h5 : k0_cond5 i = 1#1 := by by_contra h; exact h4 (hc.mpr h)
    simp -zeta -zetaDelta -eta -iota -proj only [dif_neg h2, dif_pos h3, dif_neg h4, dif_pos h5]
    sl_exec
    sl_step
    isplitl [H3]
    · iexists _; isplitr; · ipureintro; exact harg3.read_unread _
      iexact H3
    isplitl [H4]
    · iexists _; isplitr; · ipureintro; exact harg4.read_unread _
      iexact H4
    isplitl [H6]
    · iexists _; isplitr
      swap; · iexact H6
      ipureintro
      rw [sum6, dif_pos hk]
      refine (read_full _ _ _ _ _ (by decide)).trans ?_
      unfold step6
      rw [if_neg hz, readAt_rows arg8.view _ ⟨k.val, hk⟩ (k0_off1_eq k), readAt_rows arg9.view _ ⟨k.val, hk⟩ (k0_off1_eq k), View.readAt_full, hf8, hf9, hf3, View.readAt_full, hf4, View.readAt_full, hf6]
    isplitl [H7]
    · iexists _; isplitr
      swap; · iexact H7
      ipureintro
      rw [sum7, dif_pos hk]
      refine (read_full _ _ _ _ _ (by decide)).trans ?_
      unfold step7
      rw [if_neg hz, readAt_rows arg8.view _ ⟨k.val, hk⟩ (k0_off1_eq k), readAt_rows arg9.view _ ⟨k.val, hk⟩ (k0_off1_eq k), View.readAt_full, hf8, hf9, hf3, View.readAt_full, hf7]
    isplitl [H8]
    · iexists _; isplitr; · ipureintro; exact harg8.read_unread _
      iexact H8
    isplitl [H9]
    · iexists _; isplitr; · ipureintro; exact harg9.read_unread _
      iexact H9
    iexists _; isplitr
    swap; · iexact H10
    ipureintro
    refine read_store i u d wu wd old ⟨k.val, hk⟩ arg10.view _ hf10 (k0_off3_eq k) _ _ ?_
    unfold upd
    rw [if_neg h4, readAt_rows arg8.view _ ⟨k.val, hk⟩ (k0_off1_eq k), readAt_rows arg9.view _ ⟨k.val, hk⟩ (k0_off1_eq k), View.readAt_full, hf8, hf9, hf3, View.readAt_full, hf4]
    refine congrArg (k0_pay2 _) ((readAt_rows arg10.view _ ⟨k.val, hk⟩ (k0_off3_eq k) _).trans ?_)
    rw [hf10]; exact rowsOf_upto i u d wu wd old ⟨k.val, hk⟩

end Cert.Kernel6Ideal.Mlp

end
-- ==== Proof.MlpBwdRun.lean ====
/-
  The backward pass of the multilayer perceptron: its body at each grid point keeps the invariant — the input, the cotangent
  and the input's gradient so far in scratch, the result at its launch contents until the last point copies the gradient
  out — so the launch ends with both weights' gradients tiled by the points' blocks and the result at the last point's sum.
-/
module

public import proofs.«01_k».proof.Proof.MlpBwdTrip
public import Idealize.ShloMosaic.Lib.Pipeline.FrameValue

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (Pipeline.UD sig nD τ) ℕ

/-! ## The body at a point -/

abbrev hbM0_0 : Memref sig .tc .hbm S2112x1024 .bf16 := Memref.whole main_v0
abbrev hbM0_1 : Memref sig .tc .hbm S2112x1024 .f32 := Memref.whole main_arg1
abbrev hbM0_2 : Memref sig .tc .hbm S2112x1024 .f32 := Memref.whole main_v3_0
abbrev scM0_0 : Memref sig .tc .vmem S2112x1024 .bf16 := Memref.whole cc0_scratch0
abbrev scM0_1 : Memref sig .tc .vmem S2112x1024 .f32 := Memref.whole cc0_scratch1
abbrev scM0_2 : Memref sig .tc .vmem S2112x1024 .f32 := Memref.whole cc0_scratch2
/-- A whole buffer of the core at given contents. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The conditions of the first and of the last point. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .eq (BitVec.ofNat 32 (i 0).val) 7#32)) 0#32) = 1#1
theorem hcond : ∀ t : Fin cfg0.N, (cond0_0 (grid0.coords t) ↔ t.val = 0) ∧ (cond0_1 (grid0.coords t) ↔ t.val = 7)
    ∧ (k0_cond4 (grid0.coords t) = 1#1 ↔ t.val = 0) ∧ (k0_cond4 (grid0.coords t) = 1#1 ↔ ¬k0_cond5 (grid0.coords t) = 1#1) :=
  (by decide +kernel : ∀ t : Fin grid0.N, _)

theorem pt_of (c : Dev nD) {sp : Space} {S : Shape} {e : EltTy} (M : Memref sig .tc sp S e) {f g : HbBuf0 (F := F) c M}
    (h : f = g) : (hbPt0 c M f : sProp 𝕄) ⊢ hbPt0 c M g := by
  subst h; exact .rfl

theorem trips_eq : Scf.trips k0_t1_loop.lb k0_t1_loop.ub k0_t1_loop.st = 3 + 1 := by decide

/-- The trips of a point, and what follows them. -/
theorem loop_run (c : Dev nD) (E : Set ℕ) (i : grid0.Coords) (arg1 : Memref sig .tc .hbm S2112x1024 .bf16) (harg1 : arg1.IsWhole)
    (arg2 : Memref sig .tc .hbm S2112x1024 .f32) (harg2 : arg2.IsWhole) (arg3 : Memref sig .tc .vmem S1024x512 .bf16) (harg3 : arg3.IsWhole)
    (arg4 : Memref sig .tc .vmem S512x1024 .bf16) (harg4 : arg4.IsWhole) (arg5 : Memref sig .tc .hbm S2112x1024 .f32) (harg5 : arg5.IsWhole)
    (arg6 : Memref sig .tc .vmem S1024x512 .f32) (harg6 : arg6.IsWhole) (arg7 : Memref sig .tc .vmem S512x1024 .f32) (harg7 : arg7.IsWhole)
    (arg8 : Memref sig .tc .vmem S2112x1024 .bf16) (harg8 : arg8.IsWhole) (arg9 : Memref sig .tc .vmem S2112x1024 .f32) (harg9 : arg9.IsWhole)
    (arg10 : Memref sig .tc .vmem S2112x1024 .f32) (harg10 : arg10.IsWhole) (r0 r1 r2) (a0 : BitVec 32)
    (hc : k0_cond4 i = 1#1 ↔ ¬k0_cond5 i = 1#1)
    (u : Vec F S2112x1024 .bf16) (d : Vec F S2112x1024 .f32) (wu : Vec F S1024x512 .bf16) (wd : Vec F S512x1024 .bf16)
    (s6 : Vec F S1024x512 .f32) (s7 : Vec F S512x1024 .f32) (old : Vec F S2112x1024 .f32)
    (kk : PUnit → Prog (TpuEff nD τ sig (Elt F) Λ₀ .tc) PUnit) (K : PUnit → sProp 𝕄) :
    iprop(owns (c : Thread nD τ) arg3 fullShare wu ∗ owns (c : Thread nD τ) arg4 fullShare wd
        ∗ owns (c : Thread nD τ) arg6 fullShare s6 ∗ owns (c : Thread nD τ) arg7 fullShare s7
        ∗ owns (c : Thread nD τ) arg8 fullShare u ∗ owns (c : Thread nD τ) arg9 fullShare d
        ∗ owns (c : Thread nD τ) arg10 fullShare old
        ∗ (iprop(owns (c : Thread nD τ) arg3 fullShare wu ∗ owns (c : Thread nD τ) arg4 fullShare wd
            ∗ owns (c : Thread nD τ) arg6 fullShare (sum6 u d wu wd s6 (3 + 1)) ∗ owns (c : Thread nD τ) arg7 fullShare (sum7 u d wu s7 (3 + 1))
            ∗ owns (c : Thread nD τ) arg8 fullShare u ∗ owns (c : Thread nD τ) arg9 fullShare d
            ∗ owns (c : Thread nD τ) arg10 fullShare (done i u d wu wd old))
          -∗ wp frame (wpE (defs₀ (F := F)) Variants.none (c : Thread nD τ) none) E (kk ⟨⟩) K))
      ⊢ wp frame (wpE (defs₀ (F := F)) Variants.none (c : Thread nD τ) none) E
          ((Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 r0 r1 r2 a0)) >>= kk) K := by
  have L := Scf.wp_for_bind frame (wpE (defs₀ (F := F)) Variants.none (c : Thread nD τ) none) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 r0 r1 r2 a0)
      (fun k _ => (held c i arg3 arg4 arg6 arg7 arg8 arg9 arg10 u d wu wd s6 s7 old k : sProp 𝕄))
      (fun k _ => trip_run c E i arg1 harg1 arg2 harg2 arg3 harg3 arg4 harg4 arg5 harg5 arg6 harg6 arg7 harg7 arg8 harg8 arg9 harg9 arg10 harg10 r0 r1 r2 a0 hc u d wu wd s6 s7 old k)
      (kk := kk) (Q := K)
  dsimp only at L
  unfold held at L
  rw [upto_zero, trips_eq, show upto i u d wu wd old (3 + 1) = done i u d wu wd old from upto_trips i u d wu wd old] at L
  iintro ⟨H3, H4, H6, H7, H8, H9, H10, Hk⟩
  ihave HL := L $$ [H3 H4 H6 H7 H8 H9 H10]
  · isplitl [H3]; · iexact H3
    isplitl [H4]; · iexact H4
    isplitl [H6]; · iexact H6
    isplitl [H7]; · iexact H7
    isplitl [H8]; · iexact H8
    isplitl [H9]; · iexact H9
    iexact H10
  iapply HL
  iintro %_ H
  iapply Hk
  iexact H

/-- A point neither first nor last. -/
theorem body_mid (c : Dev nD) (i : grid0.Coords) (arg3 : Memref sig .tc .vmem S1024x512 .bf16) (harg3 : arg3.IsWhole)
    (arg4 : Memref sig .tc .vmem S512x1024 .bf16) (harg4 : arg4.IsWhole)
    (arg6 : Memref sig .tc .vmem S1024x512 .f32) (harg6 : arg6.IsWhole) (arg7 : Memref sig .tc .vmem S512x1024 .f32) (harg7 : arg7.IsWhole)
    (arg8 : Memref sig .tc .vmem S2112x1024 .bf16) (harg8 : arg8.IsWhole) (arg9 : Memref sig .tc .vmem S2112x1024 .f32) (harg9 : arg9.IsWhole)
    (arg10 : Memref sig .tc .vmem S2112x1024 .f32) (harg10 : arg10.IsWhole)
    (hc : k0_cond4 i = 1#1 ↔ ¬k0_cond5 i = 1#1) (h0 : ¬cond0_0 i) (h1 : ¬cond0_1 i)
    (u : Vec F S2112x1024 .bf16) (d : Vec F S2112x1024 .f32) (wu : Vec F S1024x512 .bf16) (wd : Vec F S512x1024 .bf16)
    (s6 : Vec F S1024x512 .f32) (s7 : Vec F S512x1024 .f32) (old w : Vec F S2112x1024 .f32)
    (W : Waits sig Unit) (K : PUnit → sProp 𝕄) :
    iprop(owns (c : Thread nD τ) arg3 fullShare wu ∗ owns (c : Thread nD τ) arg4 fullShare wd ∗ owns (c : Thread nD τ) arg6 fullShare s6 ∗ owns (c : Thread nD τ) arg7 fullShare s7 ∗ owns (c : Thread nD τ) arg8 fullShare u ∗ owns (c : Thread nD τ) arg9 fullShare d ∗ owns (c : Thread nD τ) arg10 fullShare old
        ∗ semVal ((c : Thread nD τ), SemLoc.dma 8) 0 ∗ semVal ((c : Thread nD τ), SemLoc.dma 9) 0 ∗ semVal ((c : Thread nD τ), SemLoc.dma 10) 0
        ∗ hbPt0 c hbM0_0 u ∗ hbPt0 c hbM0_1 d ∗ hbPt0 c hbM0_2 w ∗ owes (c : Thread nD τ) 0 W
        ∗ (iprop(owns (c : Thread nD τ) arg3 fullShare wu ∗ owns (c : Thread nD τ) arg4 fullShare wd ∗ owns (c : Thread nD τ) arg6 fullShare (sum6 u d wu wd s6 (3 + 1)) ∗ owns (c : Thread nD τ) arg7 fullShare (sum7 u d wu s7 (3 + 1)) ∗ owns (c : Thread nD τ) arg8 fullShare u ∗ owns (c : Thread nD τ) arg9 fullShare d ∗ owns (c : Thread nD τ) arg10 fullShare (done i u d wu wd old)
            ∗ semVal ((c : Thread nD τ), SemLoc.dma 8) 0 ∗ semVal ((c : Thread nD τ), SemLoc.dma 9) 0 ∗ semVal ((c : Thread nD τ), SemLoc.dma 10) 0
            ∗ hbPt0 c hbM0_0 u ∗ hbPt0 c hbM0_1 d ∗ hbPt0 c hbM0_2 w ∗ (∃ W', owes (c : Thread nD τ) 0 W')) -∗ K ⟨⟩))
      ⊢ wp frame (wpE (defs₀ (F := F)) Variants.none c none) Set.univ (cc0_mlp_core_bwd i (Memref.whole main_v0) (Memref.isWhole_whole _) (Memref.whole main_arg1) (Memref.isWhole_whole _) arg3 harg3 arg4 harg4 (Memref.whole main_v3_0) (Memref.isWhole_whole _) arg6 harg6 arg7 harg7 arg8 harg8 arg9 harg9 arg10 harg10 cc0_scoped0 cc0_scoped1 cc0_scoped2) K := by
  simp only [cc0_mlp_core_bwd_eq_skeleton]; unfold cc0_mlp_core_bwd_skel
  dsimp only
  simp -zeta -zetaDelta -eta -iota -proj only [dif_neg h0, dif_neg h1]
  iintro ⟨H3, H4, H6, H7, H8, H9, H10, Hq0, Hq1, Hq2, Hh0, Hh1, Hh2, HW, Hk⟩
  iapply (loop_run c Set.univ i (Memref.whole main_v0) (Memref.isWhole_whole _) (Memref.whole main_arg1) (Memref.isWhole_whole _) arg3 harg3 arg4 harg4 (Memref.whole main_v3_0) (Memref.isWhole_whole _) arg6 harg6 arg7 harg7 arg8 harg8 arg9 harg9 arg10 harg10 cc0_scoped0 cc0_scoped1 cc0_scoped2 _ hc u d wu wd s6 s7 old _ K)
  isplitl [H3]; · iexact H3
  isplitl [H4]; · iexact H4
  isplitl [H6]; · iexact H6
  isplitl [H7]; · iexact H7
  isplitl [H8]; · iexact H8
  isplitl [H9]; · iexact H9
  isplitl [H10]; · iexact H10
  iintro ⟨H3, H4, H6, H7, H8, H9, H10⟩
  sl_step
  iapply Hk
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  iexists _; iexact HW

/-- The last point. -/
theorem body_last (c : Dev nD) (i : grid0.Coords) (arg3 : Memref sig .tc .vmem S1024x512 .bf16) (harg3 : arg3.IsWhole)
    (arg4 : Memref sig .tc .vmem S512x1024 .bf16) (harg4 : arg4.IsWhole)
    (arg6 : Memref sig .tc .vmem S1024x512 .f32) (harg6 : arg6.IsWhole) (arg7 : Memref sig .tc .vmem S512x1024 .f32) (harg7 : arg7.IsWhole)
    (arg8 : Memref sig .tc .vmem S2112x1024 .bf16) (harg8 : arg8.IsWhole) (arg9 : Memref sig .tc .vmem S2112x1024 .f32) (harg9 : arg9.IsWhole)
    (arg10 : Memref sig .tc .vmem S2112x1024 .f32) (harg10 : arg10.IsWhole)
    (hc : k0_cond4 i = 1#1 ↔ ¬k0_cond5 i = 1#1) (h0 : ¬cond0_0 i) (h1 : cond0_1 i)
    (u : Vec F S2112x1024 .bf16) (d : Vec F S2112x1024 .f32) (wu : Vec F S1024x512 .bf16) (wd : Vec F S512x1024 .bf16)
    (s6 : Vec F S1024x512 .f32) (s7 : Vec F S512x1024 .f32) (old w : Vec F S2112x1024 .f32)
    (W : Waits sig Unit) (K : PUnit → sProp 𝕄) :
    iprop(owns (c : Thread nD τ) arg3 fullShare wu ∗ owns (c : Thread nD τ) arg4 fullShare wd ∗ owns (c : Thread nD τ) arg6 fullShare s6 ∗ owns (c : Thread nD τ) arg7 fullShare s7 ∗ owns (c : Thread nD τ) arg8 fullShare u ∗ owns (c : Thread nD τ) arg9 fullShare d ∗ owns (c : Thread nD τ) arg10 fullShare old
        ∗ semVal ((c : Thread nD τ), SemLoc.dma 8) 0 ∗ semVal ((c : Thread nD τ), SemLoc.dma 9) 0 ∗ semVal ((c : Thread nD τ), SemLoc.dma 10) 0
        ∗ hbPt0 c hbM0_0 u ∗ hbPt0 c hbM0_1 d ∗ hbPt0 c hbM0_2 w ∗ owes (c : Thread nD τ) 0 W
        ∗ (iprop(owns (c : Thread nD τ) arg3 fullShare wu ∗ owns (c : Thread nD τ) arg4 fullShare wd ∗ owns (c : Thread nD τ) arg6 fullShare (sum6 u d wu wd s6 (3 + 1)) ∗ owns (c : Thread nD τ) arg7 fullShare (sum7 u d wu s7 (3 + 1)) ∗ owns (c : Thread nD τ) arg8 fullShare u ∗ owns (c : Thread nD τ) arg9 fullShare d ∗ owns (c : Thread nD τ) arg10 fullShare (done i u d wu wd old)
            ∗ semVal ((c : Thread nD τ), SemLoc.dma 8) 0 ∗ semVal ((c : Thread nD τ), SemLoc.dma 9) 0 ∗ semVal ((c : Thread nD τ), SemLoc.dma 10) 0
            ∗ hbPt0 c hbM0_0 u ∗ hbPt0 c hbM0_1 d ∗ hbPt0 c hbM0_2 (done i u d wu wd old) ∗ (∃ W', owes (c : Thread nD τ) 0 W')) -∗ K ⟨⟩))
      ⊢ wp frame (wpE (defs₀ (F := F)) Variants.none c none) Set.univ (cc0_mlp_core_bwd i (Memref.whole main_v0) (Memref.isWhole_whole _) (Memref.whole main_arg1) (Memref.isWhole_whole _) arg3 harg3 arg4 harg4 (Memref.whole main_v3_0) (Memref.isWhole_whole _) arg6 harg6 arg7 harg7 arg8 harg8 arg9 harg9 arg10 harg10 cc0_scoped0 cc0_scoped1 cc0_scoped2) K := by
  simp only [cc0_mlp_core_bwd_eq_skeleton]; unfold cc0_mlp_core_bwd_skel
  dsimp only
  simp -zeta -zetaDelta -eta -iota -proj only [dif_neg h0, dif_pos h1]
  iintro ⟨H3, H4, H6, H7, H8, H9, H10, Hq0, Hq1, Hq2, Hh0, Hh1, Hh2, HW, Hk⟩
  iapply (loop_run c Set.univ i (Memref.whole main_v0) (Memref.isWhole_whole _) (Memref.whole main_arg1) (Memref.isWhole_whole _) arg3 harg3 arg4 harg4 (Memref.whole main_v3_0) (Memref.isWhole_whole _) arg6 harg6 arg7 harg7 arg8 harg8 arg9 harg9 arg10 harg10 cc0_scoped0 cc0_scoped1 cc0_scoped2 _ hc u d wu wd s6 s7 old _ K)
  isplitl [H3]; · iexact H3
  isplitl [H4]; · iexact H4
  isplitl [H6]; · iexact H6
  isplitl [H7]; · iexact H7
  isplitl [H8]; · iexact H8
  isplitl [H9]; · iexact H9
  isplitl [H10]; · iexact H10
  iintro ⟨H3, H4, H6, H7, H8, H9, H10⟩
  unfold owns
  icases H10 with ⟨%f10, %hf10, H10⟩
  sl_exec
  sl_step
  iapply Hk
  isplitl [H3]; · iexact H3
  isplitl [H4]; · iexact H4
  isplitl [H6]; · iexact H6
  isplitl [H7]; · iexact H7
  isplitl [H8]; · iexact H8
  isplitl [H9]; · iexact H9
  isplitl [H10]
  · iexists _; isplitr; · ipureintro; exact hf10
    iexact H10
  isplitl [Hq0]; · iexact Hq0
  isplitl [Hq1]; · iexact Hq1
  isplitl [Hq2]; · iexact Hq2
  isplitl [Hh0]; · iexact Hh0
  isplitl [Hh1]; · iexact Hh1
  isplitl [Hh2]
  · iapply (pt_of c hbM0_2 (f := _) (g := done i u d wu wd old) ?e)
    swap; · iexact Hh2
    refine (View.write_whole_univ _ _ _).trans ?_
    exact hf10
  iexists _; iexact HW

/-- The first point. -/
theorem body_first (c : Dev nD) (i : grid0.Coords) (arg3 : Memref sig .tc .vmem S1024x512 .bf16) (harg3 : arg3.IsWhole)
    (arg4 : Memref sig .tc .vmem S512x1024 .bf16) (harg4 : arg4.IsWhole)
    (arg6 : Memref sig .tc .vmem S1024x512 .f32) (harg6 : arg6.IsWhole) (arg7 : Memref sig .tc .vmem S512x1024 .f32) (harg7 : arg7.IsWhole)
    (arg8 : Memref sig .tc .vmem S2112x1024 .bf16) (harg8 : arg8.IsWhole) (arg9 : Memref sig .tc .vmem S2112x1024 .f32) (harg9 : arg9.IsWhole)
    (arg10 : Memref sig .tc .vmem S2112x1024 .f32) (harg10 : arg10.IsWhole)
    (hc : k0_cond4 i = 1#1 ↔ ¬k0_cond5 i = 1#1) (h0 : cond0_0 i) (h1 : ¬cond0_1 i)
    (u : Vec F S2112x1024 .bf16) (d : Vec F S2112x1024 .f32) (wu : Vec F S1024x512 .bf16) (wd : Vec F S512x1024 .bf16)
    (s6 : Vec F S1024x512 .f32) (s7 : Vec F S512x1024 .f32) (old w : Vec F S2112x1024 .f32)
    (x8 : Vec F S2112x1024 .bf16) (x9 : Vec F S2112x1024 .f32)
    (W : Waits sig Unit) (K : PUnit → sProp 𝕄) :
    iprop(owns (c : Thread nD τ) arg3 fullShare wu ∗ owns (c : Thread nD τ) arg4 fullShare wd ∗ owns (c : Thread nD τ) arg6 fullShare s6 ∗ owns (c : Thread nD τ) arg7 fullShare s7 ∗ owns (c : Thread nD τ) arg8 fullShare x8 ∗ owns (c : Thread nD τ) arg9 fullShare x9 ∗ owns (c : Thread nD τ) arg10 fullShare old
        ∗ semVal ((c : Thread nD τ), SemLoc.dma 8) 0 ∗ semVal ((c : Thread nD τ), SemLoc.dma 9) 0 ∗ semVal ((c : Thread nD τ), SemLoc.dma 10) 0
        ∗ hbPt0 c hbM0_0 u ∗ hbPt0 c hbM0_1 d ∗ hbPt0 c hbM0_2 w ∗ owes (c : Thread nD τ) 0 W
        ∗ (iprop(owns (c : Thread nD τ) arg3 fullShare wu ∗ owns (c : Thread nD τ) arg4 fullShare wd ∗ owns (c : Thread nD τ) arg6 fullShare (sum6 u d wu wd s6 (3 + 1)) ∗ owns (c : Thread nD τ) arg7 fullShare (sum7 u d wu s7 (3 + 1)) ∗ owns (c : Thread nD τ) arg8 fullShare u ∗ owns (c : Thread nD τ) arg9 fullShare d ∗ owns (c : Thread nD τ) arg10 fullShare (done i u d wu wd old)
            ∗ semVal ((c : Thread nD τ), SemLoc.dma 8) 0 ∗ semVal ((c : Thread nD τ), SemLoc.dma 9) 0 ∗ semVal ((c : Thread nD τ), SemLoc.dma 10) 0
            ∗ hbPt0 c hbM0_0 u ∗ hbPt0 c hbM0_1 d ∗ hbPt0 c hbM0_2 w ∗ (∃ W', owes (c : Thread nD τ) 0 W')) -∗ K ⟨⟩))
      ⊢ wp frame (wpE (defs₀ (F := F)) Variants.none c none) Set.univ (cc0_mlp_core_bwd i (Memref.whole main_v0) (Memref.isWhole_whole _) (Memref.whole main_arg1) (Memref.isWhole_whole _) arg3 harg3 arg4 harg4 (Memref.whole main_v3_0) (Memref.isWhole_whole _) arg6 harg6 arg7 harg7 arg8 harg8 arg9 harg9 arg10 harg10 cc0_scoped0 cc0_scoped1 cc0_scoped2) K := by
  simp only [cc0_mlp_core_bwd_eq_skeleton]; unfold cc0_mlp_core_bwd_skel
  dsimp only
  simp -zeta -zetaDelta -eta -iota -proj only [dif_pos h0, dif_neg h1]
  unfold owns
  iintro ⟨H3, H4, H6, H7, ⟨%f8, %hf8, H8⟩, ⟨%f9, %hf9, H9⟩, H10, Hq0, Hq1, Hq2, Hh0, Hh1, Hh2, HW, Hk⟩
  sl_exec
  have L := loop_run c Set.univ i (Memref.whole main_v0) (Memref.isWhole_whole _) (Memref.whole main_arg1) (Memref.isWhole_whole _) arg3 harg3 arg4 harg4 (Memref.whole main_v3_0) (Memref.isWhole_whole _) arg6 harg6 arg7 harg7 arg8 harg8 arg9 harg9 arg10 harg10 cc0_scoped0 cc0_scoped1 cc0_scoped2 (BitVec.ofNat 32 (i 0).val) hc u d wu wd s6 s7 old (fun _ => pure PUnit.unit) K
  unfold owns at L
  iapply L
  isplitl [H3]; · iexact H3
  isplitl [H4]; · iexact H4
  isplitl [H6]; · iexact H6
  isplitl [H7]; · iexact H7
  isplitl [H8]
  · iexists _; isplitr
    swap; · iexact H8
    ipureintro
    exact read_copy _ _ _ _
  isplitl [H9]
  · iexists _; isplitr
    swap; · iexact H9
    ipureintro
    exact read_copy _ _ _ _
  isplitl [H10]; · iexact H10
  iintro ⟨H3, H4, H6, H7, H8, H9, H10⟩
  sl_step
  iapply Hk
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  iexists _; iexact HW

/-! ## The launch's resources -/

variable (m : (ℓ : Loc nD τ sig) → Buf (Elt F) ℓ) (ρ : Dev nD → PrngReg)

abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2] (by decide) (by decide)]; rfl

def H0 : Finset (Ref sig .tc) := {main_v0, main_arg1}
def R0 : Finset (Ref sig .tc) := {main_v3_0}
theorem H0_sub : H0 ⊆ Pipeline.restRefs sig spec0 := by decide
theorem R0_sub : R0 ⊆ Pipeline.restRefs sig spec0 \ H0 := by decide

abbrev U (c : Dev nD) : Vec F S2112x1024 .bf16 := V m c main_v0
abbrev D (c : Dev nD) : Vec F S2112x1024 .f32 := V m c main_arg1
abbrev R (c : Dev nD) : Vec F S2112x1024 .f32 := V m c main_v3_0

theorem hbmPts0_eq (c : Dev nD) : (bigSep H0 (fun b => ((c : Thread nD τ).loc b) ↦{fullShare} V m c b) : sProp 𝕄) = iprop(hbPt0 c hbM0_0 (U m c) ∗ hbPt0 c hbM0_1 (D m c)) := by
  rw [BI.bigSep_eq_bigSepL_of_eq [main_v0, main_arg1] (by decide) (by decide)]; rfl

theorem held_eq (c : Dev nD) (G : (b : Ref sig .tc) → Buf (Elt F) ((c : Thread nD τ).loc b)) :
    (Pipeline.routed R0 c G : sProp 𝕄) = hbPt0 c hbM0_2 (G main_v3_0) := by
  unfold Pipeline.routed; rw [BI.bigSep_eq_bigSepL_of_eq [main_v3_0] (by decide) (by decide)]; rfl

/-! ## The proof data -/

/-- The input's gradient after `n` points. -/
def acc (c : Dev nD) : ℕ → Vec F S2112x1024 .f32
  | 0 => fun _ => Scalar.ofBits .f32 0x00000000#32
  | n + 1 => if h : n < cfg0.N then done (grid0.coords ⟨n, h⟩) (U m c) (D m c) (iblk m c 0 ⟨n, h⟩) (iblk m c 1 ⟨n, h⟩) (acc c n) else acc c n
theorem acc_step (c : Dev nD) (t : Fin cfg0.N) :
    acc m c (t.val + 1) = done (grid0.coords t) (U m c) (D m c) (iblk m c 0 t) (iblk m c 1 t) (acc m c t.val) := by
  simp only [acc, dif_pos t.isLt]

/-- The result after `n` points: as launched, until the last. -/
def res (c : Dev nD) (n : ℕ) : Vec F S2112x1024 .f32 := if n = cfg0.N then acc m c n else R m c

/-- The weights' gradients a point leaves. -/
def wup (c : Dev nD) (t : Fin cfg0.N) : Vec F S1024x512 .f32 :=
  sum6 (U m c) (D m c) (iblk m c 0 t) (iblk m c 1 t) (fun _ => Scalar.ofBits .f32 0x00000000#32) (3 + 1)
def wdown (c : Dev nD) (t : Fin cfg0.N) : Vec F S512x1024 .f32 :=
  sum7 (U m c) (D m c) (iblk m c 0 t) (fun _ => Scalar.ofBits .f32 0x00000000#32) (3 + 1)

/-- Between points: the input, the cotangent and the gradient so far in scratch, the result. -/
def mid (c : Dev nD) (n : ℕ) : sProp 𝕄 :=
  iprop(iprop(owns (c : Thread nD τ) scM0_0 fullShare (U m c) ∗ owns (c : Thread nD τ) scM0_1 fullShare (D m c)
      ∗ owns (c : Thread nD τ) scM0_2 fullShare (acc m c n))
    ∗ (∃ r, prngReg c r)
    ∗ iprop(semVal ((c : Thread nD τ), SemLoc.dma 8) 0 ∗ semVal ((c : Thread nD τ), SemLoc.dma 9) 0 ∗ semVal ((c : Thread nD τ), SemLoc.dma 10) 0)
    ∗ iprop(hbPt0 c hbM0_0 (U m c) ∗ hbPt0 c hbM0_1 (D m c))
    ∗ hbPt0 c hbM0_2 (res m c n))

theorem Phi_eq (c : Dev nD) (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scM0_0 fullShare d) ∗ (∃ d, owns (c : Thread nD τ) scM0_1 fullShare d)
          ∗ (∃ d, owns (c : Thread nD τ) scM0_2 fullShare d))
        ∗ (∃ r, prngReg c r)
        ∗ iprop(semVal ((c : Thread nD τ), SemLoc.dma 8) 0 ∗ semVal ((c : Thread nD τ), SemLoc.dma 9) 0 ∗ semVal ((c : Thread nD τ), SemLoc.dma 10) 0)
        ∗ iprop(hbPt0 c hbM0_0 (U m c) ∗ hbPt0 c hbM0_1 (D m c))
        ∗ hbPt0 c hbM0_2 (G c main_v3_0)) := by
  rw [Pipeline.ΦDRG_eq, scopedRest0_eq, ownSems00_eq, hbmPts0_eq, held_eq]
  simp only [scM0_0, scM0_1, scM0_2, owns_whole]; try rfl

def Phi (c : Dev nD) : (n : ℕ) → n ≤ cfg0.N → sProp 𝕄
  | 0, _ => Pipeline.ΦDRG osem0 spec0 H0 R0 (V m) (V m) c
  | n + 1, _ => mid m c (n + 1)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => wup m c t
    | ⟨3, _⟩ => wdown m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t
theorem Phi_pos (c : Dev nD) (n : ℕ) (h : n ≤ cfg0.N) (hz : n ≠ 0) : Phi m c n h = mid m c n := by
  cases n with
  | zero => exact absurd rfl hz
  | succ n => rfl
theorem Phi_succ (c : Dev nD) (t : Fin cfg0.N) : (dats m 0 c).Φ t.succ = mid m c (t.val + 1) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = wup m c t := by dsimp only [dats]
theorem after_3 (c : Dev nD) (t : Fin cfg0.N) : (dats m 0 c).after 3 t = wdown m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_first (c : Dev nD) (t : Fin cfg0.N) (h : t.val = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hC : cfg0.N = 8 := N_0
  unfold bodyPre bodyPost bodyAt0
  simp only [before_0, before_1]
  rw [Phi_castSucc, Phi_succ, after_0, after_1, after_2, after_3]
  rw [show Phi m c t.val (Nat.le_of_lt t.isLt) = Pipeline.ΦDRG osem0 spec0 H0 R0 (V m) (V m) c from by
      obtain ⟨n, hn⟩ := t; obtain rfl : n = 0 := h; rfl, Phi_eq]
  have hr : res m c (t.val + 1) = R m c := if_neg (by omega)
  unfold Dat.owesAt Pipeline.owesWithin mid
  rw [show (dats m 0 c).owed t.castSucc = 0 from rfl, show (dats m 0 c).owed t.succ = 0 from rfl, hr, acc_step]
  iintro ⟨⟨⟨⟨%x8, HS0⟩, ⟨%x9, HS1⟩, ⟨%old, HS2⟩⟩, Hg, ⟨Hq0, Hq1, Hq2⟩, ⟨Hh0, Hh1⟩, Hh2⟩, ⟨%W, -, HW⟩, ⟨%d0, H0⟩, ⟨%d1, H1⟩, ⟨%d2, H2⟩, ⟨%d3, H3⟩⟩
  rw [done_first (grid0.coords t) (U m c) (D m c) (iblk m c 0 t) (iblk m c 1 t) ((hcond t).2.2.1.mpr h) (acc m c t.val) old]
  iapply (body_first c (grid0.coords t) _ _ _ _ _ _ _ _ _ _ _ _ _ _ (hcond t).2.2.2 (by rw [(hcond t).1]; omega) (by rw [(hcond t).2.1]; omega) (U m c) (D m c) (iblk m c 0 t) (iblk m c 1 t) ((dats m 0 c).before 2 t d2) ((dats m 0 c).before 3 t d3) old (R m c) x8 x9 W _)
  rw [sum6_any _ _ _ _ ((dats m 0 c).before 2 t d2) (fun _ => Scalar.ofBits .f32 0x00000000#32), sum7_any _ _ _ ((dats m 0 c).before 3 t d3) (fun _ => Scalar.ofBits .f32 0x00000000#32)]
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0 Hh1]
    · isplitl [Hh0]; · iexact Hh0
      iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  iexact H3

theorem sound_mid (c : Dev nD) (t : Fin cfg0.N) (h : t.val ≠ 0) (h7 : t.val ≠ 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hC : cfg0.N = 8 := N_0
  unfold bodyPre bodyPost bodyAt0
  simp only [before_0, before_1]
  rw [Phi_castSucc, Phi_succ, after_0, after_1, after_2, after_3]
  rw [Phi_pos m c _ _ (by omega)]
  have hq : res m c t.val = R m c := if_neg (by omega)
  have hr : res m c (t.val + 1) = R m c := if_neg (by omega)
  unfold Dat.owesAt Pipeline.owesWithin mid
  rw [show (dats m 0 c).owed t.castSucc = 0 from rfl, show (dats m 0 c).owed t.succ = 0 from rfl, hr, hq, acc_step]
  iintro ⟨⟨⟨HS0, HS1, HS2⟩, Hg, ⟨Hq0, Hq1, Hq2⟩, ⟨Hh0, Hh1⟩, Hh2⟩, ⟨%W, -, HW⟩, ⟨%d0, H0⟩, ⟨%d1, H1⟩, ⟨%d2, H2⟩, ⟨%d3, H3⟩⟩
  iapply (body_mid c (grid0.coords t) _ _ _ _ _ _ _ _ _ _ _ _ _ _ (hcond t).2.2.2 (by rw [(hcond t).1]; omega) (by rw [(hcond t).2.1]; omega) (U m c) (D m c) (iblk m c 0 t) (iblk m c 1 t) ((dats m 0 c).before 2 t d2) ((dats m 0 c).before 3 t d3) (acc m c t.val) (R m c) W _)
  rw [sum6_any _ _ _ _ ((dats m 0 c).before 2 t d2) (fun _ => Scalar.ofBits .f32 0x00000000#32), sum7_any _ _ _ ((dats m 0 c).before 3 t d3) (fun _ => Scalar.ofBits .f32 0x00000000#32)]
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0 Hh1]
    · isplitl [Hh0]; · iexact Hh0
      iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  iexact H3

theorem sound_last (c : Dev nD) (t : Fin cfg0.N) (h : t.val = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hC : cfg0.N = 8 := N_0
  unfold bodyPre bodyPost bodyAt0
  simp only [before_0, before_1]
  rw [Phi_castSucc, Phi_succ, after_0, after_1, after_2, after_3]
  rw [Phi_pos m c _ _ (by omega)]
  have hq : res m c t.val = R m c := if_neg (by omega)
  have hr : res m c (t.val + 1) = done (grid0.coords t) (U m c) (D m c) (iblk m c 0 t) (iblk m c 1 t) (acc m c t.val) :=
    (if_pos (by omega)).trans (acc_step m c t)
  unfold Dat.owesAt Pipeline.owesWithin mid
  rw [show (dats m 0 c).owed t.castSucc = 0 from rfl, show (dats m 0 c).owed t.succ = 0 from rfl, hr, hq, acc_step]
  iintro ⟨⟨⟨HS0, HS1, HS2⟩, Hg, ⟨Hq0, Hq1, Hq2⟩, ⟨Hh0, Hh1⟩, Hh2⟩, ⟨%W, -, HW⟩, ⟨%d0, H0⟩, ⟨%d1, H1⟩, ⟨%d2, H2⟩, ⟨%d3, H3⟩⟩
  iapply (body_last c (grid0.coords t) _ _ _ _ _ _ _ _ _ _ _ _ _ _ (hcond t).2.2.2 (by rw [(hcond t).1]; omega) (by rw [(hcond t).2.1]; omega) (U m c) (D m c) (iblk m c 0 t) (iblk m c 1 t) ((dats m 0 c).before 2 t d2) ((dats m 0 c).before 3 t d3) (acc m c t.val) (R m c) W _)
  rw [sum6_any _ _ _ _ ((dats m 0 c).before 2 t d2) (fun _ => Scalar.ofBits .f32 0x00000000#32), sum7_any _ _ _ ((dats m 0 c).before 3 t d3) (fun _ => Scalar.ofBits .f32 0x00000000#32)]
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, HS0, HS1, HS2, Hq0, Hq1, Hq2, Hh0, Hh1, Hh2, ⟨%W', HW'⟩⟩
  isplitl [HS0 HS1 HS2 Hg Hq0 Hq1 Hq2 Hh0 Hh1 Hh2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [Hh0 Hh1]
    · isplitl [Hh0]; · iexact Hh0
      iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  iexact H3

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · by_cases h7 : t.val = 7
    · exact sound_last m c t h7
    · exact sound_mid m c t h h7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- The buffers after the region: as it found them, but for the result. -/
def G (c : Dev nD) : (b : Ref sig .tc) → Buf (Elt F) ((c : Thread nD τ).loc b) :=
  Function.update ((V m) c) main_v3_0 (acc m c cfg0.N)
theorem G_res (c : Dev nD) : G m c main_v3_0 = acc m c cfg0.N := by
  unfold G; simp only [Function.update_self]

theorem hin (c : Dev nD) : Pipeline.ΦDRG osem0 spec0 H0 R0 (V m) (V m) c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦDRG osem0 spec0 H0 R0 (V m) (G m) c := by
  have hl : (dats m 0 c).Φ (Fin.last cfg0.N) = mid m c cfg0.N :=
    (Phi_pos m c cfg0.N le_rfl (by rw [show cfg0.N = 8 from N_0]; omega))
  rw [hl, Phi_eq, G_res]
  unfold mid
  rw [show res m c cfg0.N = acc m c cfg0.N from if_pos rfl]
  iintro ⟨⟨HS0, HS1, HS2⟩, HR⟩
  isplitl [HS0 HS1 HS2]
  · isplitl [HS0]
    · iexists _; iexact HS0
    isplitl [HS1]
    · iexists _; iexact HS1
    iexists _; iexact HS2
  iexact HR

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution ends, every counter at zero, with the outputs tiled and the result at the last sum. -/
theorem run_main : θ_run defs (onTc (τ := τ) (main (F := F))) (s₀ m ρ)
    (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := hin m) (hout := hout m)

/-- The arguments end as they were. -/
theorem args_of (h : θ_run defs (onTc (τ := τ) (main (F := F))) (s₀ m ρ) (Pipeline.FramePostR cfgs (dats m) 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_of m ρ ((θ_run defs _ _).mono (fun _ h => h.1.toR) (run_main m ρ)))
    ((θ_run defs _ _).mono (fun _ h => h.2) (run_main m ρ))

end Cert.Kernel6Ideal.Mlp

end
-- ==== Proof.MlpBwd.lean ====
/-
  The backward pass of the multilayer perceptron: a point's 512 hidden columns give whole blocks of both weights' gradients,
  each summed over the four blocks of rows, and one summand of every entry of the input's gradient. Where the hidden value is
  not positive the reference selects zero and the kernel multiplies by twice its positive part, zero.
-/
module

public import proofs.«01_k».proof.Defs
public import proofs.«01_k».proof.Proof.MlpBwdBits
public import proofs.«01_k».proof.Proof.MlpBwdRun
public import proofs.«01_k».proof.Proof.Gen.Reference6Ideal.Read

@[expose] public section

noncomputable section

open Idealize.ShloMosaic Idealize.ShloMosaic.TcCoe Idealize.SL.Sem
open Idealize.ShloMosaic.Pipeline (Dat)

namespace Cert.MlpBwd

open Cert.Kernel6Ideal Cert.Kernel6Ideal.Gen Cert.Kernel6Ideal.Mlp

variable (m : (ℓ : Loc nD τ sig) → Buf (Elt Ideal) ℓ) (c : Dev nD)

/-- The input, the cotangent and the two weights, as launched. -/
abbrev u : (⟨S2112x1024, .f32⟩ : BufTy).Contents (Elt Ideal) := m ((c : Thread nD τ).loc main_arg0)
abbrev d : (⟨S2112x1024, .f32⟩ : BufTy).Contents (Elt Ideal) := m ((c : Thread nD τ).loc main_arg1)
abbrev wu : (⟨S1024x4096, .f32⟩ : BufTy).Contents (Elt Ideal) := m ((c : Thread nD τ).loc main_arg2)
abbrev wd : (⟨S4096x1024, .f32⟩ : BufTy).Contents (Elt Ideal) := m ((c : Thread nD τ).loc main_arg3)

theorem idx : ∀ t : Fin cfg0.N, win0_0.index t = ![0, t.val] ∧ win0_1.index t = ![t.val, 0] ∧ win0_2.index t = ![0, t.val]
    ∧ win0_3.index t = ![t.val, 0] :=
  (by decide +kernel : ∀ t : Fin grid0.N, _)

theorem point_lt (t : Fin cfg0.N) : t.val < 8 := lt_of_lt_of_eq t.isLt (show cfg0.N = 8 from N_0)

/-- A row of the input against a column of the first weight, its positive part; the hidden cotangent. -/
def dot (x w : Fin 1024 → EReal) : EReal := ∑ l, x l * w l
def hid (x w : Fin 1024 → EReal) : EReal := max (dot x w) 0
def two : EReal := FloatOps.ofBits (F := Ideal) .f32 0x40000000#32
def dhid (x g w v : Fin 1024 → EReal) : EReal := dot g v * (two * hid x w)

/-! ## One block of rows -/

theorem pay4_at (v10 : Vec Ideal S528x1024 .bf16) (v14 : Vec Ideal S1024x512 .bf16) (z : S528x512.Idx) :
    k0_pay4 (F := Ideal) v10 v14 z = hid (fun l => v10 (ix2 (z 0) l)) (fun l => v14 (ix2 l (z 1))) := by
  unfold hid dot
  pointwise [k0_pay4]

theorem pay5_at (v10 : Vec Ideal S528x1024 .bf16) (v12 : Vec Ideal S528x1024 .f32) (v14 : Vec Ideal S1024x512 .bf16)
    (v19 : Vec Ideal S512x1024 .bf16) (z : S528x512.Idx) :
    k0_pay5 (F := Ideal) v10 v12 v14 v19 z = dhid (fun l => v10 (ix2 (z 0) l)) (fun l => v12 (ix2 (z 0) l)) (fun l => v14 (ix2 l (z 1)))
      (fun l => v19 (ix2 (z 1) l)) := by
  unfold dhid
  rw [← pay4_at v10 v14 z]
  unfold dot two
  pointwise [k0_pay5, k0_pay3]

theorem pay6_at (v10 : Vec Ideal S528x1024 .bf16) (v12 : Vec Ideal S528x1024 .f32) (v14 : Vec Ideal S1024x512 .bf16) (z : S512x1024.Idx) :
    k0_pay6 (F := Ideal) v10 v12 v14 z
      = ∑ r : Fin 528, k0_pay4 (F := Ideal) v10 v14 (ix2 r (z 0)) * k0_pay4 (F := Ideal) v10 v14 (ix2 r (z 0)) * v12 (ix2 r (z 1)) := by
  pointwise [k0_pay6, k0_pay3]

theorem pay7_at (v10 : Vec Ideal S528x1024 .bf16) (v12 : Vec Ideal S528x1024 .f32) (v14 : Vec Ideal S1024x512 .bf16)
    (v19 : Vec Ideal S512x1024 .bf16) (z : S1024x512.Idx) :
    k0_pay7 (F := Ideal) v10 v12 v14 v19 z = ∑ r : Fin 528, v10 (ix2 r (z 0)) * k0_pay5 (F := Ideal) v10 v12 v14 v19 (ix2 r (z 1)) := by
  pointwise [k0_pay7]

theorem pay8_at (v10 : Vec Ideal S528x1024 .bf16) (v12 : Vec Ideal S528x1024 .f32) (v14 : Vec Ideal S1024x512 .bf16)
    (v19 : Vec Ideal S512x1024 .bf16) (v30 : Vec Ideal S1024x512 .bf16) (z : S528x1024.Idx) :
    k0_pay8 (F := Ideal) v10 v12 v14 v19 v30 z = ∑ k : Fin 512, k0_pay5 (F := Ideal) v10 v12 v14 v19 (ix2 (z 0) k) * v30 (ix2 (z 1) k) := by
  pointwise [k0_pay8]

theorem pay1_at (v : Vec Ideal S528x1024 .f32) (z : S528x1024.Idx) : k0_pay1 (F := Ideal) v z = v z := by
  pointwise [k0_pay1]
theorem pay2_at (v s : Vec Ideal S528x1024 .f32) (z : S528x1024.Idx) : k0_pay2 (F := Ideal) v s z = s z + v z := by
  pointwise [k0_pay2]
theorem pay9_at (v10 : Vec Ideal S528x1024 .bf16) (v12 : Vec Ideal S528x1024 .f32) (v14 : Vec Ideal S1024x512 .bf16)
    (s : Vec Ideal S512x1024 .f32) (z : S512x1024.Idx) : k0_pay9 (F := Ideal) v10 v12 v14 s z = s z + k0_pay6 (F := Ideal) v10 v12 v14 z := by
  pointwise [k0_pay9]
theorem pay10_at (v10 : Vec Ideal S528x1024 .bf16) (v12 : Vec Ideal S528x1024 .f32) (v14 : Vec Ideal S1024x512 .bf16)
    (v19 : Vec Ideal S512x1024 .bf16) (s : Vec Ideal S1024x512 .f32) (z : S1024x512.Idx) :
    k0_pay10 (F := Ideal) v10 v12 v14 v19 s z = s z + k0_pay7 (F := Ideal) v10 v12 v14 v19 z := by
  pointwise [k0_pay10]

/-! ## One point -/

section
variable (x0 : Vec Ideal S2112x1024 .bf16) (x1 : Vec Ideal S2112x1024 .f32) (w : Vec Ideal S1024x512 .bf16) (v : Vec Ideal S512x1024 .bf16)

/-- The hidden value and the hidden cotangent at a row and one of the point's columns. -/
def hidAt (r : Fin 2112) (k : Fin 512) : EReal := hid (fun l => x0 (ix2 r l)) (fun l => w (ix2 l k))
def dhidAt (r : Fin 2112) (k : Fin 512) : EReal :=
  dhid (fun l => x0 (ix2 r l)) (fun l => x1 (ix2 r l)) (fun l => w (ix2 l k)) (fun l => v (ix2 k l))

/-- Row `r` of block `q`. -/
def rowAt (q : Fin 4) (r : Fin 528) : Fin 2112 := ⟨528 * q.val + r.val, by omega⟩

theorem rowsOf_at {e : EltTy} (x : Vec Ideal S2112x1024 e) (q : Fin 4) (r : Fin 528) (l : Fin 1024) : rowsOf x q (ix2 r l) = x (ix2 (rowAt q r) l) := rfl

theorem hid_rows (q : Fin 4) (r : Fin 528) (k : Fin 512) : k0_pay4 (F := Ideal) (rowsOf x0 q) w (ix2 r k) = hidAt x0 w (rowAt q r) k :=
  pay4_at _ _ _
theorem dhid_rows (q : Fin 4) (r : Fin 528) (k : Fin 512) :
    k0_pay5 (F := Ideal) (rowsOf x0 q) (rowsOf x1 q) w v (ix2 r k) = dhidAt x0 x1 w v (rowAt q r) k :=
  pay5_at _ _ _ _ _

/-- What one point adds to an entry of the input's gradient. -/
def part (y : S2112x1024.Idx) : EReal := ∑ k : Fin 512, dhidAt x0 x1 w v (y 0) k * w (ix2 (y 1) k)

theorem rowAt_eq (y : Fin 2112) (h : y.val / 528 < 4) (h' : y.val % 528 < 528) : rowAt ⟨y.val / 528, h⟩ ⟨y.val % 528, h'⟩ = y :=
  Fin.ext (by show 528 * (y.val / 528) + y.val % 528 = y.val; omega)

theorem pay8_rows (y : S2112x1024.Idx) (h : (y 0).val / 528 < 4) (h' : (y 0).val % 528 < 528) :
    k0_pay8 (F := Ideal) (rowsOf x0 ⟨(y 0).val / 528, h⟩) (rowsOf x1 ⟨(y 0).val / 528, h⟩) w v w (ix2 ⟨(y 0).val % 528, h'⟩ (y 1)) = part x0 x1 w v y := by
  rw [pay8_at]
  unfold part
  refine Finset.sum_congr rfl fun k _ => congrArg (· * w (ix2 (y 1) k)) ?_
  exact (dhid_rows x0 x1 w v _ _ k).trans (congrArg (dhidAt x0 x1 w v · k) (rowAt_eq (y 0) h h'))

theorem sum6_at (s : Vec Ideal S1024x512 .f32) (z : S1024x512.Idx) :
    sum6 x0 x1 w v s (3 + 1) z = ∑ q : Fin 4, ∑ r : Fin 528, x0 (ix2 (rowAt q r) (z 0)) * dhidAt x0 x1 w v (rowAt q r) (z 1) := by
  have hp : ∀ q : Fin 4, k0_pay7 (F := Ideal) (rowsOf x0 q) (rowsOf x1 q) w v z
      = ∑ r : Fin 528, x0 (ix2 (rowAt q r) (z 0)) * dhidAt x0 x1 w v (rowAt q r) (z 1) := fun q =>
    (pay7_at _ _ _ _ z).trans (Finset.sum_congr rfl fun r _ => congrArg (x0 (ix2 (rowAt q r) (z 0)) * ·) (dhid_rows x0 x1 w v q r (z 1)))
  rw [Fin.sum_univ_four, ← hp 0, ← hp 1, ← hp 2, ← hp 3]
  show k0_pay10 (F := Ideal) (rowsOf x0 3) (rowsOf x1 3) w v (k0_pay10 (F := Ideal) (rowsOf x0 2) (rowsOf x1 2) w v
    (k0_pay10 (F := Ideal) (rowsOf x0 1) (rowsOf x1 1) w v (k0_pay7 (F := Ideal) (rowsOf x0 0) (rowsOf x1 0) w v))) z = _
  rw [pay10_at, pay10_at, pay10_at]

theorem sum7_at (s : Vec Ideal S512x1024 .f32) (z : S512x1024.Idx) :
    sum7 x0 x1 w s (3 + 1) z = ∑ q : Fin 4, ∑ r : Fin 528, hidAt x0 w (rowAt q r) (z 0) * hidAt x0 w (rowAt q r) (z 0) * x1 (ix2 (rowAt q r) (z 1)) := by
  have hp : ∀ q : Fin 4, k0_pay6 (F := Ideal) (rowsOf x0 q) (rowsOf x1 q) w z
      = ∑ r : Fin 528, hidAt x0 w (rowAt q r) (z 0) * hidAt x0 w (rowAt q r) (z 0) * x1 (ix2 (rowAt q r) (z 1)) := fun q =>
    (pay6_at _ _ _ z).trans (Finset.sum_congr rfl fun r _ =>
      congrArg (· * x1 (ix2 (rowAt q r) (z 1))) (congrArg (fun a : EReal => a * a) (hid_rows x0 w q r (z 0))))
  rw [Fin.sum_univ_four, ← hp 0, ← hp 1, ← hp 2, ← hp 3]
  show k0_pay9 (F := Ideal) (rowsOf x0 3) (rowsOf x1 3) w (k0_pay9 (F := Ideal) (rowsOf x0 2) (rowsOf x1 2) w
    (k0_pay9 (F := Ideal) (rowsOf x0 1) (rowsOf x1 1) w (k0_pay6 (F := Ideal) (rowsOf x0 0) (rowsOf x1 0) w))) z = _
  rw [pay9_at, pay9_at, pay9_at]

end

/-! ## The blocks a point is handed -/

theorem u_at (r : Fin 2112) (l : Fin 1024) : U m c (ix2 r l) = u m c (ix2 r l) := by
  unfold U u
  entry_read
  pointwise
theorem d_at (r : Fin 2112) (l : Fin 1024) : D m c (ix2 r l) = d m c (ix2 r l) :=
  congrFun (V_main_arg1 m c) _

theorem wu_at (t : Fin cfg0.N) (l : Fin 1024) (k : Fin 512) (r : S1024x4096.Idx) (h0 : (r 0).val = l.val)
    (h1 : (r 1).val = t.val * 512 + k.val) : iblk m c 0 t (ix2 l k) = wu m c r := by
  unfold wu
  blk_simp [iblk, idx t]
  entry_read
  pointwise
  blk_ext [idx t, h0, h1]

theorem wd_at (t : Fin cfg0.N) (k : Fin 512) (i : Fin 1024) (r : S4096x1024.Idx) (h0 : (r 0).val = t.val * 512 + k.val)
    (h1 : (r 1).val = i.val) : iblk m c 1 t (ix2 k i) = wd m c r := by
  unfold wd
  blk_simp [iblk, idx t]
  entry_read
  pointwise
  blk_ext [idx t, h0, h1]

/-! ## The reference -/

section
variable (x0 x1 : (⟨S2112x1024, .f32⟩ : BufTy).Contents (Elt Ideal)) (x2 : (⟨S1024x4096, .f32⟩ : BufTy).Contents (Elt Ideal))
  (x3 : (⟨S4096x1024, .f32⟩ : BufTy).Contents (Elt Ideal))

def refHid (r : Fin 2112) (k : Fin 4096) : EReal := hid (fun l => x0 (ix2 r l)) (fun l => x2 (ix2 l k))
def refDhid (r : Fin 2112) (k : Fin 4096) : EReal :=
  dhid (fun l => x0 (ix2 r l)) (fun l => x1 (ix2 r l)) (fun l => x2 (ix2 l k)) (fun l => x3 (ix2 k l))

theorem ref_dot (i : Cert.Reference6Ideal.S2112x4096.Idx) (r : Fin 2112) (k : Fin 4096) (h0 : (i 0).val = r.val) (h1 : (i 1).val = k.val) :
    Cert.Reference6Ideal.Read.val_main_v0 (F := Ideal) x0 x2 i = dot (fun l => x0 (ix2 r l)) (fun l => x2 (ix2 l k)) := by
  rw [Cert.Reference6Ideal.Read.val_main_v0_apply]
  refine Finset.sum_congr rfl fun l _ => congrArg₂ (· * ·) (congrArg x0 (funext fun a => Fin.ext ?_)) (congrArg x2 (funext fun a => Fin.ext ?_))
  · match a with
    | ⟨0, _⟩ => exact h0
    | ⟨1, _⟩ => rfl
  · match a with
    | ⟨0, _⟩ => rfl
    | ⟨1, _⟩ => exact h1

theorem ref_hid (i : Cert.Reference6Ideal.S2112x4096.Idx) (r : Fin 2112) (k : Fin 4096) (h0 : (i 0).val = r.val) (h1 : (i 1).val = k.val) :
    Cert.Reference6Ideal.Read.val_main_v1 (F := Ideal) x0 x2 i = refHid x0 x2 r k := by
  rw [Cert.Reference6Ideal.Read.val_main_v1_apply, ref_dot x0 x2 i r k h0 h1, Cert.Reference6Ideal.Read.val_main_call0_v0_apply,
    Cert.Reference6Ideal.Read.val_main_call0_cst_apply]
  unfold refHid hid
  generalize dot _ _ = a
  pointwise

theorem ref_cot (i : Cert.Reference6Ideal.S2112x4096.Idx) (r : Fin 2112) (k : Fin 4096) (h0 : (i 0).val = r.val) (h1 : (i 1).val = k.val) :
    Cert.Reference6Ideal.Read.val_main_v11 (F := Ideal) x1 x3 i = dot (fun l => x1 (ix2 r l)) (fun l => x3 (ix2 k l)) := by
  rw [Cert.Reference6Ideal.Read.val_main_v11_apply]
  refine Finset.sum_congr rfl fun l _ => congrArg₂ (· * ·) (congrArg x1 (funext fun a => Fin.ext ?_)) (congrArg x3 (funext fun a => Fin.ext ?_))
  · match a with
    | ⟨0, _⟩ => exact h0
    | ⟨1, _⟩ => rfl
  · match a with
    | ⟨0, _⟩ => exact h1
    | ⟨1, _⟩ => rfl

theorem select_zero (a g : EReal) :
    Scalar.select (FloatOps.cmpf (F := Ideal) (φ := .f32) .ogt a (0 : EReal)) (g * (two * max a 0)) (0 : EReal) = g * (two * max a 0) := by
  by_cases h : 0 < a
  · simp [Scalar.select, Ideal.cmpf_def, Ideal.cmp, h]
  · rw [max_eq_right (not_lt.mp h), mul_zero, mul_zero]
    simp [Scalar.select]

theorem ref_dhid (i : Cert.Reference6Ideal.S2112x4096.Idx) (r : Fin 2112) (k : Fin 4096) (h0 : (i 0).val = r.val) (h1 : (i 1).val = k.val) :
    Cert.Reference6Ideal.Read.val_main_v14 (F := Ideal) x0 x1 x2 x3 i = refDhid x0 x1 x2 x3 r k := by
  rw [Cert.Reference6Ideal.Read.val_main_v14_apply, Cert.Reference6Ideal.Read.val_main_v3_apply, Cert.Reference6Ideal.Read.val_main_v12_apply,
    Cert.Reference6Ideal.Read.val_main_v7_apply, ref_hid x0 x2 i r k h0 h1, ref_dot x0 x2 i r k h0 h1, ref_cot x1 x3 i r k h0 h1,
    Cert.Reference6Ideal.Read.val_main_v13_apply, Cert.Reference6Ideal.Read.val_main_cst_2_apply, Cert.Reference6Ideal.Read.val_main_v2_apply,
    Cert.Reference6Ideal.Read.val_main_cst_apply, Cert.Reference6Ideal.Read.val_main_v6_apply, Cert.Reference6Ideal.Read.val_main_cst_1_apply]
  unfold refHid refDhid dhid hid
  generalize dot (fun l => x0 (ix2 r l)) _ = a
  generalize dot _ _ = g
  have hz : (FloatOps.ofBits (F := Ideal) .f32 0x00000000#32 : EReal) = 0 := by pointwise
  rw [hz]
  exact select_zero a g

end

/-! ## The blocks of the points are the reference's -/

theorem hid_eq (t : Fin cfg0.N) (r : Fin 2112) (k : Fin 512) (j : Fin 4096) (hj : j.val = t.val * 512 + k.val) :
    hidAt (U m c) (iblk m c 0 t) r k = refHid (u m c) (wu m c) r j :=
  congrArg₂ hid (funext fun l => u_at m c r l) (funext fun l => wu_at m c t l k (ix2 l j) rfl hj)
theorem dhid_eq (t : Fin cfg0.N) (r : Fin 2112) (k : Fin 512) (j : Fin 4096) (hj : j.val = t.val * 512 + k.val) :
    dhidAt (U m c) (D m c) (iblk m c 0 t) (iblk m c 1 t) r k = refDhid (u m c) (d m c) (wu m c) (wd m c) r j := by
  unfold dhidAt refDhid dhid
  exact congrArg₂ (fun a b => a * (two * b))
    (congrArg₂ dot (funext fun l => d_at m c r l) (funext fun l => wd_at m c t k l (ix2 j l) hj rfl))
    (congrArg₂ hid (funext fun l => u_at m c r l) (funext fun l => wu_at m c t l k (ix2 l j) rfl hj))

theorem pos2_0 (t : Fin cfg0.N) (y : S1024x512.Idx) : ((win0_2.blk t).view.emb y 0).val = (y 0).val := by
  blk_simp [idx t]
theorem pos2_1 (t : Fin cfg0.N) (y : S1024x512.Idx) : ((win0_2.blk t).view.emb y 1).val = t.val * 512 + (y 1).val := by
  blk_simp [idx t]
theorem pos3_0 (t : Fin cfg0.N) (y : S512x1024.Idx) : ((win0_3.blk t).view.emb y 0).val = t.val * 512 + (y 0).val := by
  blk_simp [idx t]
theorem pos3_1 (t : Fin cfg0.N) (y : S512x1024.Idx) : ((win0_3.blk t).view.emb y 1).val = (y 1).val := by
  blk_simp [idx t]

/-- The first weight's gradient is the reference's. -/
theorem arr_2 : (dats m 0 c).arrAt 2 cfg0.N = Cert.Reference6Ideal.Read.val_main_v16 (F := Ideal) (u m c) (d m c) (wu m c) (wd m c) := by
  refine (dats m 0 c).arrAt_eq_of_covers 2 _ (by decide +kernel) fun t hf y => ?_
  blk_simp
  rw [after_2]
  unfold wup
  refine (sum6_at _ _ _ _ _ _).trans ?_
  rw [Cert.Reference6Ideal.Read.val_main_v16_apply, Cert.Reference6Ideal.Read.val_main_v15_apply]
  refine Fin.sum_mul_add_congr fun q r hl => ?_
  rw [mul_comm]
  refine congrArg₂ (· * ·) ?_ ?_
  · refine (dhid_eq m c t (rowAt q r) (y 1) _ (pos2_1 t y)).trans (ref_dhid _ _ _ _ _ _ _ ?_ ?_).symm
    · show q.val * 528 + r.val = 528 * q.val + r.val
      omega
    · rfl
  · refine (u_at m c _ _).trans (congrArg (u m c) (funext fun a => Fin.ext ?_))
    match a with
    | ⟨0, _⟩ => show 528 * q.val + r.val = q.val * 528 + r.val; omega
    | ⟨1, _⟩ => exact (pos2_0 t y).symm

/-- The second weight's gradient is the reference's. -/
theorem arr_3 : (dats m 0 c).arrAt 3 cfg0.N = Cert.Reference6Ideal.Read.val_main_v10 (F := Ideal) (u m c) (d m c) (wu m c) := by
  refine (dats m 0 c).arrAt_eq_of_covers 3 _ (by decide +kernel) fun t hf y => ?_
  blk_simp
  rw [after_3]
  unfold wdown
  refine (sum7_at _ _ _ _ _).trans ?_
  rw [Cert.Reference6Ideal.Read.val_main_v10_apply, Cert.Reference6Ideal.Read.val_main_v9_apply]
  refine Fin.sum_mul_add_congr fun q r hl => ?_
  rw [mul_comm, Cert.Reference6Ideal.Read.val_main_v5_apply]
  refine congrArg₂ (· * ·) ?_ ?_
  · refine (d_at m c _ _).trans (congrArg (d m c) (funext fun a => Fin.ext ?_))
    match a with
    | ⟨0, _⟩ => show 528 * q.val + r.val = q.val * 528 + r.val; omega
    | ⟨1, _⟩ => exact (pos3_1 t y).symm
  · have h := (hid_eq m c t (rowAt q r) (y 0) _ (pos3_0 t y)).trans (ref_hid (u m c) (wu m c) (Cert.Reference6Ideal.Read.ridx_main_v9 (Cert.Reference6Ideal.Read.idx_main_v10 ((win0_3.blk t).view.emb y)) ⟨q.val * 528 + r.val, hl⟩)
      (rowAt q r) ((win0_3.blk t).view.emb y 0) (by show q.val * 528 + r.val = 528 * q.val + r.val; omega) rfl).symm
    exact congrArg₂ (· * ·) h h

/-! ## The input's gradient -/

theorem first_at (t : Fin cfg0.N) (h : t.val % 8 = 0) (y : S2112x1024.Idx) :
    acc m c (t.val + 1) y = 0 + part (U m c) (D m c) (iblk m c 0 t) (iblk m c 1 t) y := by
  have hN := point_lt t
  rw [acc_step]
  unfold done upd
  rw [if_pos ((hcond t).2.2.1.mpr (by omega)), zero_add, pay1_at]
  exact pay8_rows _ _ _ _ y _ _

theorem later_at (t : Fin cfg0.N) (h : ¬t.val % 8 = 0) (y : S2112x1024.Idx) :
    acc m c (t.val + 1) y = acc m c (t.val - 1 + 1) y + part (U m c) (D m c) (iblk m c 0 t) (iblk m c 1 t) y := by
  rw [acc_step, show t.val - 1 + 1 = t.val from by omega]
  unfold done upd
  rw [if_neg (fun h' => h (by rw [(hcond t).2.2.1.mp h'])), pay2_at]
  refine congrArg₂ (· + ·) ?_ (pay8_rows _ _ _ _ y _ _)
  refine congrArg (acc m c t.val) (funext fun a => Fin.ext ?_)
  match a with
  | ⟨0, _⟩ => show 528 * ((y 0).val / 528) + (y 0).val % 528 = (y 0).val; omega
  | ⟨1, _⟩ => rfl

theorem sum_at (t : Fin cfg0.N) (h : t.val % 8 = 7) (y : S2112x1024.Idx) :
    acc m c (t.val + 1) y
      = ∑ s : Fin 8, part (U m c) (D m c) (iblk m c 0 ⟨8 * (t.val / 8) + s.val, Pipeline.run_point_lt_of_flush t h s⟩)
          (iblk m c 1 ⟨8 * (t.val / 8) + s.val, Pipeline.run_point_lt_of_flush t h s⟩) y := by
  rw [Pipeline.eq_sum_fin_of_reset_step_apply_of_flush (fun n h => acc m c (n + 1)) 8 (fun _ => 0) _
      (fun t h y => first_at m c t h y) (fun t h y => later_at m c t h y) t h y, zero_add]

/-- Column `k` of the point's. -/
def col (t : Fin cfg0.N) (k : Fin 512) : Fin 4096 := ⟨t.val * 512 + k.val, by have := point_lt t; omega⟩

theorem part_eq (t : Fin cfg0.N) (y : S2112x1024.Idx) : part (U m c) (D m c) (iblk m c 0 t) (iblk m c 1 t) y
    = ∑ k : Fin 512, refDhid (u m c) (d m c) (wu m c) (wd m c) (y 0) (col t k) * wu m c (ix2 (y 1) (col t k)) := by
  unfold part
  exact Finset.sum_congr rfl fun k _ => congrArg₂ (fun a b : EReal => a * b) (dhid_eq m c t (y 0) k (col t k) rfl)
    (wu_at m c t (y 1) k (ix2 (y 1) (col t k)) rfl rfl)

theorem last_at (t : Fin cfg0.N) (h : t.val = 7) (y : S2112x1024.Idx) :
    acc m c (t.val + 1) y = Cert.Reference6Ideal.Read.val_main_v17 (F := Ideal) (u m c) (d m c) (wu m c) (wd m c) y := by
  refine (sum_at m c t (by omega) y).trans ?_
  refine (Finset.sum_congr rfl fun s _ => part_eq m c _ y).trans ?_
  rw [Cert.Reference6Ideal.Read.val_main_v17_apply]
  generalize wu m c = w
  refine Fin.sum_mul_add_congr fun s k hl => ?_
  refine congrArg₂ (fun a b : EReal => a * b) (ref_dhid _ _ _ _ _ _ _ ?_ ?_).symm (congrArg w (funext fun a => Fin.ext ?_))
  · rfl
  · show s.val * 512 + k.val = (8 * (t.val / 8) + s.val) * 512 + k.val
    omega
  · match a with
    | ⟨0, _⟩ => rfl
    | ⟨1, _⟩ => show (8 * (t.val / 8) + s.val) * 512 + k.val = s.val * 512 + k.val; omega

theorem res_eq : G m c main_v3_0 = Cert.Reference6Ideal.Read.val_main_v17 (F := Ideal) (u m c) (d m c) (wu m c) (wd m c) := by
  have hN : cfg0.N = 8 := N_0
  obtain ⟨t, ht⟩ : ∃ t : Fin cfg0.N, t.val = 7 := ⟨⟨7, by omega⟩, rfl⟩
  refine (G_res m c).trans (Eq.trans (congrArg (acc m c) (show cfg0.N = t.val + 1 by omega)) (funext fun y => last_at m c t ht y))

/-! ## The claims -/

set_option backward.isDefEq.respectTransparency.types false in
/-- The kernel's results after the run. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v3_0) = Cert.Reference6Ideal.Read.val_main_v17 (F := Ideal) (u m c) (d m c) (wu m c) (wd m c)
      ∧ r.2.mem ((c.tc : Thread nD τ).loc main_v3_1) = Cert.Reference6Ideal.Read.val_main_v16 (F := Ideal) (u m c) (d m c) (wu m c) (wd m c)
      ∧ r.2.mem ((c.tc : Thread nD τ).loc main_v3_2) = Cert.Reference6Ideal.Read.val_main_v10 (F := Ideal) (u m c) (d m c) (wu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h.1.1.2 c main_v3_0 (by decide)).trans (res_eq m c), ((h.1.1.1 c).1 2).trans (arr_2 m c),
      ((h.1.1.1 c).1 3).trans (arr_3 m c), h.2 c⟩)
    (θ_run_and (run_main m g) (args_of m g ((θ_run defs _ _).mono (fun _ h => h.1.toR) (run_main m g))))

theorem frame_kernel : Cert.quiescent_Kernel6 := fun m g _ => Cert.Kernel6.Mlp.frame m g
theorem frame_ideal : Cert.quiescent_Kernel6Ideal := fun m g _ => Cert.Kernel6Ideal.Mlp.frame m g

/-- The reference leaves its arguments as they were; it has no semaphores. -/
theorem frame_reference : Cert.quiescent_Reference6Ideal := fun m g _ =>
  (θ_run _ _ _).mono (fun _ h => ⟨fun c => (h c).2.2.2, sem_eq_zero_of_no_sems (by decide) _⟩) (Cert.Reference6Ideal.Value.run m g)

/-- Both programs leave the same results. -/
theorem algebraic : Cert.algebraic_Kernel6Ideal_Reference6Ideal := by
  intro m g m' g' _ hm
  refine ⟨fun c => Cert.Reference6Ideal.Read.val_main_v17 (F := Ideal) (u m c) (d m c) (wu m c) (wd m c),
    fun c => Cert.Reference6Ideal.Read.val_main_v16 (F := Ideal) (u m c) (d m c) (wu m c) (wd m c),
    fun c => Cert.Reference6Ideal.Read.val_main_v10 (F := Ideal) (u m c) (d m c) (wu m c), kernel_run m g, ?_⟩
  refine (θ_run _ _ _).mono (fun r h c => ⟨(h c).1.trans ?_, (h c).2.1.trans ?_, (h c).2.2.1.trans ?_, (h c).2.2.2⟩) (Cert.Reference6Ideal.Value.run m' g')
  all_goals obtain ⟨e0, e1, e2, e3⟩ := hm c
  · rw [Cert.Reference6Ideal.Read.val_main_v17_eq, e0, e1, e2, e3]
  · rw [Cert.Reference6Ideal.Read.val_main_v16_eq, e0, e1, e2, e3]
  · rw [Cert.Reference6Ideal.Read.val_main_v10_eq, e0, e1, e2]

end Cert.MlpBwd

end
-- ==== Proof.lean ====
/-
  The claim, put together: for the merge's backward pass the equality of the results of both programs is assembled here from
  its parts; the calls of the input projection and of the perceptron bring their own.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5.Skeleton
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6.Skeleton
public import proofs.«01_k».proof.Proof.Gen.Kernel6Ideal.Frame
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.MergeFrames
public import proofs.«01_k».proof.Proof.MergeValue
public import proofs.«01_k».proof.Proof.InProjDw
public import proofs.«01_k».proof.Proof.InProjDx
public import proofs.«01_k».proof.Proof.InProj
public import proofs.«01_k».proof.Proof.MlpFwd
public import proofs.«01_k».proof.Proof.MlpBwd

@[expose] public section

set_option maxRecDepth 16384

noncomputable section

namespace Cert.Proof

open Idealize.ShloMosaic Idealize.SL.Sem

/-- The reference leaves its arguments as they were; it has no semaphores. -/
theorem frame_reference : Cert.quiescent_ReferenceIdeal := fun m ρ _ =>
  (θ_run _ _ _).mono (fun _ h => ⟨fun c => (h c).2.2.2.2.2.2.2.2.2, sem_eq_zero_of_no_sems (by decide) _⟩)
    (Cert.ReferenceIdeal.Value.run m ρ)

section Algebraic

open Cert.Merge.Value Cert.Merge.Run Cert.KernelIdeal Cert.KernelIdeal.Gen Cert.ReferenceIdeal.Read

variable (m : (ℓ : Loc nD τ sig) → Buf (Elt Ideal) ℓ)

/-- The results, as the reference's values of the arguments. -/
abbrev r0 (c : Dev nD) : Buf (Elt Ideal) ((c.tc : Thread nD τ).loc main_v4_0) := val_main_v72 (F := Ideal) (a0 m c) (a1 m c) (a2 m c) (a3 m c) (a4 m c) (a7 m c) (a8 m c) (a9 m c) (a10 m c)
abbrev r1 (c : Dev nD) : Buf (Elt Ideal) ((c.tc : Thread nD τ).loc main_v4_1) := val_main_v74 (F := Ideal) (a0 m c) (a1 m c) (a2 m c) (a3 m c) (a4 m c) (a7 m c) (a8 m c) (a9 m c) (a10 m c)
abbrev r2 (c : Dev nD) : Buf (Elt Ideal) ((c.tc : Thread nD τ).loc main_v4_2) := val_main_v76 (F := Ideal) (a0 m c) (a1 m c) (a2 m c) (a3 m c) (a4 m c) (a7 m c) (a8 m c) (a9 m c) (a10 m c)
abbrev r3 (c : Dev nD) : Buf (Elt Ideal) ((c.tc : Thread nD τ).loc main_v4_3) := val_main_v78 (F := Ideal) (a0 m c) (a1 m c) (a2 m c) (a3 m c) (a4 m c) (a7 m c) (a8 m c) (a9 m c) (a10 m c)
abbrev r4 (c : Dev nD) : Buf (Elt Ideal) ((c.tc : Thread nD τ).loc main_v4_4) := val_main_v65 (F := Ideal) (a0 m c) (a1 m c) (a2 m c) (a3 m c) (a4 m c) (a7 m c) (a8 m c) (a9 m c) (a10 m c)
abbrev r5 (c : Dev nD) : Buf (Elt Ideal) ((c.tc : Thread nD τ).loc main_v4_5) := a10 m c
abbrev r6 (c : Dev nD) : Buf (Elt Ideal) ((c.tc : Thread nD τ).loc main_v4_6) := val_main_v70 (F := Ideal) (a0 m c) (a1 m c) (a2 m c) (a3 m c) (a4 m c) (a7 m c) (a8 m c) (a9 m c) (a10 m c)
abbrev r7 (c : Dev nD) : Buf (Elt Ideal) ((c.tc : Thread nD τ).loc main_v4_7) := val_main_v59 (F := Ideal) (a0 m c) (a1 m c) (a2 m c) (a3 m c) (a4 m c) (a7 m c) (a8 m c) (a9 m c) (a10 m c)
abbrev r8 (c : Dev nD) : Buf (Elt Ideal) ((c.tc : Thread nD τ).loc main_v4_8) := val_main_v79 (F := Ideal) (a0 m c) (a1 m c) (a2 m c) (a3 m c) (a4 m c) (a7 m c) (a8 m c) (a10 m c)

/-- The kernel leaves them in its results. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v4_0) = r0 m c
      ∧ r.2.mem ((c.tc : Thread nD τ).loc main_v4_1) = r1 m c
      ∧ r.2.mem ((c.tc : Thread nD τ).loc main_v4_2) = r2 m c
      ∧ r.2.mem ((c.tc : Thread nD τ).loc main_v4_3) = r3 m c
      ∧ r.2.mem ((c.tc : Thread nD τ).loc main_v4_4) = r4 m c
      ∧ r.2.mem ((c.tc : Thread nD τ).loc main_v4_5) = r5 m c
      ∧ r.2.mem ((c.tc : Thread nD τ).loc main_v4_6) = r6 m c
      ∧ r.2.mem ((c.tc : Thread nD τ).loc main_v4_7) = r7 m c
      ∧ r.2.mem ((c.tc : Thread nD τ).loc main_v4_8) = r8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => ⟨((h.1.1.toR c).1 7).trans (arr_7 m c), ((h.1.1.toR c).1 8).trans (arr_8 m c),
      ((h.1.1.toR c).1 9).trans (arr_9 m c), ((h.1.1.toR c).1 10).trans (arr_10 m c), ((h.1.1.toR c).1 11).trans (arr_11 m c),
      ((h.1.1.toR c).1 12).trans (arr_12 m c), (h.1.1.written c (by decide : main_v4_6 ∈ R0)).trans (G_3_eq m c),
      (h.1.1.written c (by decide : main_v4_7 ∈ R0)).trans (G_4_eq m c), (h.1.1.written c (by decide : main_v4_8 ∈ R0)).trans (G_5_eq m c),
      h.2.1 c⟩)
    (θ_run_and (run_main m g) (frame_main m g))

/-- A function of equal arguments. -/
theorem same_args9 {α0 α1 α2 α3 α4 α5 α6 α7 α8 β : Type} (f : α0 → α1 → α2 → α3 → α4 → α5 → α6 → α7 → α8 → β)
    {x0 y0 : α0} {x1 y1 : α1} {x2 y2 : α2} {x3 y3 : α3} {x4 y4 : α4} {x5 y5 : α5} {x6 y6 : α6} {x7 y7 : α7} {x8 y8 : α8}
    (e0 : x0 = y0) (e1 : x1 = y1) (e2 : x2 = y2) (e3 : x3 = y3) (e4 : x4 = y4) (e5 : x5 = y5) (e6 : x6 = y6) (e7 : x7 = y7) (e8 : x8 = y8) :
    f x0 x1 x2 x3 x4 x5 x6 x7 x8 = f y0 y1 y2 y3 y4 y5 y6 y7 y8 := by
  subst e0 e1 e2 e3 e4 e5 e6 e7 e8; rfl
theorem same_args8 {α0 α1 α2 α3 α4 α5 α6 α7 β : Type} (f : α0 → α1 → α2 → α3 → α4 → α5 → α6 → α7 → β)
    {x0 y0 : α0} {x1 y1 : α1} {x2 y2 : α2} {x3 y3 : α3} {x4 y4 : α4} {x5 y5 : α5} {x6 y6 : α6} {x7 y7 : α7}
    (e0 : x0 = y0) (e1 : x1 = y1) (e2 : x2 = y2) (e3 : x3 = y3) (e4 : x4 = y4) (e5 : x5 = y5) (e6 : x6 = y6) (e7 : x7 = y7) :
    f x0 x1 x2 x3 x4 x5 x6 x7 = f y0 y1 y2 y3 y4 y5 y6 y7 := by
  subst e0 e1 e2 e3 e4 e5 e6 e7; rfl

/-- Both programs leave the same results. -/
theorem algebraic : Cert.algebraic_KernelIdeal_ReferenceIdeal := by
  intro m g m' g' _ hm
  refine ⟨r0 m, r1 m, r2 m, r3 m, r4 m, r5 m, r6 m, r7 m, r8 m, kernel_run m g, ?_⟩
  refine (θ_run _ _ _).mono (fun r h c => ?_) (Cert.ReferenceIdeal.Value.run m' g')
  obtain ⟨e0, e1, e2, e3, e4, e5, e6, e7, e8, e9, e10⟩ := hm c
  obtain ⟨h0, h1, h2, h3, h4, h5, h6, h7, h8, hk⟩ := h c
  refine ⟨h0.trans ?_, h1.trans ?_, h2.trans ?_, h3.trans ?_, h4.trans ?_, h5.trans e10, h6.trans ?_, h7.trans ?_, h8.trans ?_, hk⟩
  · exact (val_main_v72_eq m' c).trans (same_args9 (val_main_v72 (F := Ideal)) e0 e1 e2 e3 e4 e7 e8 e9 e10)
  · exact (val_main_v74_eq m' c).trans (same_args9 (val_main_v74 (F := Ideal)) e0 e1 e2 e3 e4 e7 e8 e9 e10)
  · exact (val_main_v76_eq m' c).trans (same_args9 (val_main_v76 (F := Ideal)) e0 e1 e2 e3 e4 e7 e8 e9 e10)
  · exact (val_main_v78_eq m' c).trans (same_args9 (val_main_v78 (F := Ideal)) e0 e1 e2 e3 e4 e7 e8 e9 e10)
  · exact (val_main_v65_eq m' c).trans (same_args9 (val_main_v65 (F := Ideal)) e0 e1 e2 e3 e4 e7 e8 e9 e10)
  · exact (val_main_v70_eq m' c).trans (same_args9 (val_main_v70 (F := Ideal)) e0 e1 e2 e3 e4 e7 e8 e9 e10)
  · exact (val_main_v59_eq m' c).trans (same_args9 (val_main_v59 (F := Ideal)) e0 e1 e2 e3 e4 e7 e8 e9 e10)
  · exact (val_main_v79_eq m' c).trans (same_args8 (val_main_v79 (F := Ideal)) e0 e1 e2 e3 e4 e7 e8 e10)

end Algebraic

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Merge.Frames.frame_kernel, Cert.Merge.Frames.frame_ideal, frame_reference,
  Cert.InProjDw.frame_kernel, Cert.InProjDw.frame_ideal, Cert.InProjDw.frame_reference,
  Cert.InProjDx.frame_kernel, Cert.InProjDx.frame_ideal, Cert.InProjDx.frame_reference,
  Cert.InProj.frame_kernel, Cert.InProj.frame_ideal, Cert.InProj.frame_reference,
  Cert.MlpFwd.frame_kernel, Cert.MlpFwd.frame_ideal, Cert.MlpFwd.frame_reference,
  Cert.MlpBwd.frame_kernel, Cert.MlpBwd.frame_ideal, Cert.MlpBwd.frame_reference,
  trivial, algebraic, trivial, Cert.InProjDw.algebraic, trivial, Cert.InProjDx.algebraic, trivial, Cert.InProj.algebraic,
  trivial, Cert.MlpFwd.algebraic, trivial, Cert.MlpBwd.algebraic⟩

end Cert.Proof

end
